-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S8192x1024 : Shape := ⟨2, ![8192, 1024]⟩
abbrev S1368x1024 : Shape := ⟨2, ![1368, 1024]⟩
abbrev S1024x1024 : Shape := ⟨2, ![1024, 1024]⟩
abbrev S4096x1024 : Shape := ⟨2, ![4096, 1024]⟩
abbrev S_ : Shape := ⟨0, ![]⟩
abbrev S2 : Shape := ⟨1, ![2]⟩
abbrev S6 : Shape := ⟨1, ![6]⟩
abbrev S8 : Shape := ⟨1, ![8]⟩
abbrev S7 : Shape := ⟨1, ![7]⟩
abbrev S15 : Shape := ⟨1, ![15]⟩
abbrev S1 : Shape := ⟨1, ![1]⟩
abbrev S344x1024 : Shape := ⟨2, ![344, 1024]⟩
abbrev S64x1024 : Shape := ⟨2, ![64, 1024]⟩
abbrev S192x1024 : Shape := ⟨2, ![192, 1024]⟩
abbrev S256x1024 : Shape := ⟨2, ![256, 1024]⟩
abbrev S88x1024 : Shape := ⟨2, ![88, 1024]⟩
abbrev S168x1024 : Shape := ⟨2, ![168, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S1368x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S4096x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_18 : BitVec 32 := 4#32
  let v30 : BitVec 32 := Scalar.muli v9 c4_i32_18
  let v31 : BitVec 32 := Scalar.addi c0_i32 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v34 : BitVec 32 := Scalar.muli v8 c1_i32_20
  let v35 : BitVec 32 := Scalar.addi v33 v34
  v35.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v36 : BitVec 32 := Scalar.muli v2 c4_i32_22
  let v37 : BitVec 32 := Scalar.addi c0_i32_23 v36
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v38 : BitVec 32 := Scalar.muli v10 c2_i32_24
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v40 : BitVec 32 := Scalar.muli v8 c1_i32_25
  let v41 : BitVec 32 := Scalar.addi v39 v40
  v41.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v42 : BitVec 32 := Scalar.muli v2 c4_i32_27
  let v43 : BitVec 32 := Scalar.addi c0_i32_28 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v44 : BitVec 32 := Scalar.muli v5 c2_i32_29
  let v45 : BitVec 32 := Scalar.addi v43 v44
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v46 : BitVec 32 := Scalar.muli v11 c1_i32_30
  let v47 : BitVec 32 := Scalar.addi v45 v46
  v47.toNat
def k0_off1 (d0 : Dev nD) : Fin 2 → Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_31 : BitVec 32 := 1024#32
  let v48 : BitVec 32 := Scalar.muli v2 c1024_i32_31
  ![0, v48.toNat]
def k0_off2 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_33 : BitVec 32 := 1024#32
  let v50 : BitVec 32 := Scalar.muli v13 c1024_i32_33
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c1024_i32 : BitVec 32 := 1024#32
  let v25 : BitVec 32 := Scalar.muli v24 c1024_i32
  ![v50.toNat, v25.toNat]
def k0_off3 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_34 : BitVec 32 := 1024#32
  let v51 : BitVec 32 := Scalar.muli v23 c1024_i32_34
  let c680_i32 : BitVec 32 := 680#32
  let v52 : BitVec 32 := Scalar.addi v51 c680_i32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c1024_i32 : BitVec 32 := 1024#32
  let v25 : BitVec 32 := Scalar.muli v24 c1024_i32
  ![v52.toNat, v25.toNat]
def k0_dev4 (d0 : Dev nD) : Nat :=
  let c0_i32_47 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_46 : BitVec 32 := 4#32
  let v65 : BitVec 32 := Scalar.muli v9 c4_i32_46
  let v66 : BitVec 32 := Scalar.addi c0_i32_47 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v67 : BitVec 32 := Scalar.muli v5 c2_i32_48
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v69 : BitVec 32 := Scalar.muli v8 c1_i32_49
  let v70 : BitVec 32 := Scalar.addi v68 v69
  v70.toNat
def k0_dev5 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v77 : BitVec 32 := Scalar.muli v9 c4_i32_56
  let v78 : BitVec 32 := Scalar.addi c0_i32_57 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v79 : BitVec 32 := Scalar.muli v5 c2_i32_58
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v81 : BitVec 32 := Scalar.muli v8 c1_i32_59
  let v82 : BitVec 32 := Scalar.addi v80 v81
  v82.toNat
def k0_dev6 (d0 : Dev nD) : Nat :=
  let c0_i32_66 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_65 : BitVec 32 := 4#32
  let v89 : BitVec 32 := Scalar.muli v9 c4_i32_65
  let v90 : BitVec 32 := Scalar.addi c0_i32_66 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v91 : BitVec 32 := Scalar.muli v5 c2_i32_67
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v93 : BitVec 32 := Scalar.muli v8 c1_i32_68
  let v94 : BitVec 32 := Scalar.addi v92 v93
  v94.toNat
def k0_dev7 (d0 : Dev nD) : Nat :=
  let c0_i32_75 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_74 : BitVec 32 := 4#32
  let v101 : BitVec 32 := Scalar.muli v9 c4_i32_74
  let v102 : BitVec 32 := Scalar.addi c0_i32_75 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v103 : BitVec 32 := Scalar.muli v5 c2_i32_76
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v105 : BitVec 32 := Scalar.muli v8 c1_i32_77
  let v106 : BitVec 32 := Scalar.addi v104 v105
  v106.toNat
def k0_dev8 (d0 : Dev nD) : Nat :=
  let c0_i32_84 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_83 : BitVec 32 := 4#32
  let v113 : BitVec 32 := Scalar.muli v9 c4_i32_83
  let v114 : BitVec 32 := Scalar.addi c0_i32_84 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v115 : BitVec 32 := Scalar.muli v5 c2_i32_85
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v117 : BitVec 32 := Scalar.muli v8 c1_i32_86
  let v118 : BitVec 32 := Scalar.addi v116 v117
  v118.toNat
def k0_off4 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v26 : BitVec 32 := Scalar.muli v2 c4096_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_93 : BitVec 32 := 1024#32
  let v129 : BitVec 32 := Scalar.muli v23 c1024_i32_93
  let v130 : BitVec 32 := Scalar.addi v26 v129
  let c680_i32_94 : BitVec 32 := 680#32
  let v131 : BitVec 32 := Scalar.addi v130 c680_i32_94
  let c0_i32_100 : BitVec 32 := 0#32
  ![v131.toNat, 0]
def k0_dev9 (d0 : Dev nD) : Nat :=
  let c0_i32_97 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_96 : BitVec 32 := 4#32
  let v132 : BitVec 32 := Scalar.muli v9 c4_i32_96
  let v133 : BitVec 32 := Scalar.addi c0_i32_97 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v134 : BitVec 32 := Scalar.muli v5 c2_i32_98
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v136 : BitVec 32 := Scalar.muli v8 c1_i32_99
  let v137 : BitVec 32 := Scalar.addi v135 v136
  v137.toNat
def k0_dev10 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v154 : BitVec 32 := Scalar.muli v2 c4_i32_115
  let v155 : BitVec 32 := Scalar.addi c0_i32_116 v154
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_117 : BitVec 32 := 2#32
  let v156 : BitVec 32 := Scalar.muli v10 c2_i32_117
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v158 : BitVec 32 := Scalar.muli v8 c1_i32_118
  let v159 : BitVec 32 := Scalar.addi v157 v158
  v159.toNat
def k0_dev11 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v166 : BitVec 32 := Scalar.muli v2 c4_i32_125
  let v167 : BitVec 32 := Scalar.addi c0_i32_126 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v168 : BitVec 32 := Scalar.muli v5 c2_i32_127
  let v169 : BitVec 32 := Scalar.addi v167 v168
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_128 : BitVec 32 := 1#32
  let v170 : BitVec 32 := Scalar.muli v11 c1_i32_128
  let v171 : BitVec 32 := Scalar.addi v169 v170
  v171.toNat
def k0_off5 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_133 : BitVec 32 := 1024#32
  let v178 : BitVec 32 := Scalar.muli v13 c1024_i32_133
  let v179 : BitVec 32 := Scalar.addi v28 v178
  let c0_i32_134 : BitVec 32 := 0#32
  let v180 : BitVec 32 := Scalar.addi v179 c0_i32_134
  let c0_i32_136 : BitVec 32 := 0#32
  ![v180.toNat, 0]
def k0_dev12 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v195 : BitVec 32 := Scalar.muli v2 c4_i32_151
  let v196 : BitVec 32 := Scalar.addi c0_i32_152 v195
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_153 : BitVec 32 := 2#32
  let v197 : BitVec 32 := Scalar.muli v10 c2_i32_153
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v199 : BitVec 32 := Scalar.muli v8 c1_i32_154
  let v200 : BitVec 32 := Scalar.addi v198 v199
  v200.toNat
def k0_dev13 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v207 : BitVec 32 := Scalar.muli v2 c4_i32_161
  let v208 : BitVec 32 := Scalar.addi c0_i32_162 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v209 : BitVec 32 := Scalar.muli v5 c2_i32_163
  let v210 : BitVec 32 := Scalar.addi v208 v209
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_164 : BitVec 32 := 1#32
  let v211 : BitVec 32 := Scalar.muli v11 c1_i32_164
  let v212 : BitVec 32 := Scalar.addi v210 v211
  v212.toNat
def k0_off6 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_169 : BitVec 32 := 1024#32
  let v219 : BitVec 32 := Scalar.muli v13 c1024_i32_169
  let v220 : BitVec 32 := Scalar.addi v28 v219
  let c64_i32_170 : BitVec 32 := 64#32
  let v221 : BitVec 32 := Scalar.addi v220 c64_i32_170
  let c0_i32_172 : BitVec 32 := 0#32
  ![v221.toNat, 0]
def k0_off7 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_185 : BitVec 32 := 1024#32
  let v236 : BitVec 32 := Scalar.muli v19 c1024_i32_185
  let v237 : BitVec 32 := Scalar.addi v28 v236
  let c0_i32_186 : BitVec 32 := 0#32
  let v238 : BitVec 32 := Scalar.addi v237 c0_i32_186
  let c0_i32_193 : BitVec 32 := 0#32
  ![v238.toNat, 0]
def k0_dev14 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v239 : BitVec 32 := Scalar.muli v2 c4_i32_189
  let v240 : BitVec 32 := Scalar.addi c0_i32_190 v239
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_191 : BitVec 32 := 2#32
  let v241 : BitVec 32 := Scalar.muli v10 c2_i32_191
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v243 : BitVec 32 := Scalar.muli v8 c1_i32_192
  let v244 : BitVec 32 := Scalar.addi v242 v243
  v244.toNat
def k0_off8 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_212 : BitVec 32 := 1024#32
  let v268 : BitVec 32 := Scalar.muli v16 c1024_i32_212
  let v269 : BitVec 32 := Scalar.addi v28 v268
  let c0_i32_213 : BitVec 32 := 0#32
  let v270 : BitVec 32 := Scalar.addi v269 c0_i32_213
  let c0_i32_214 : BitVec 32 := 0#32
  ![v270.toNat, 0]
def k0_dev15 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v285 : BitVec 32 := Scalar.muli v2 c4_i32_229
  let v286 : BitVec 32 := Scalar.addi c0_i32_230 v285
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_231 : BitVec 32 := 2#32
  let v287 : BitVec 32 := Scalar.muli v10 c2_i32_231
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v289 : BitVec 32 := Scalar.muli v8 c1_i32_232
  let v290 : BitVec 32 := Scalar.addi v288 v289
  v290.toNat
def k0_dev16 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v297 : BitVec 32 := Scalar.muli v2 c4_i32_239
  let v298 : BitVec 32 := Scalar.addi c0_i32_240 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v299 : BitVec 32 := Scalar.muli v5 c2_i32_241
  let v300 : BitVec 32 := Scalar.addi v298 v299
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_242 : BitVec 32 := 1#32
  let v301 : BitVec 32 := Scalar.muli v11 c1_i32_242
  let v302 : BitVec 32 := Scalar.addi v300 v301
  v302.toNat
def k0_off9 (d0 : Dev nD) (c256_i32_248 : BitVec 32) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_247 : BitVec 32 := 1024#32
  let v309 : BitVec 32 := Scalar.muli v13 c1024_i32_247
  let v310 : BitVec 32 := Scalar.addi v28 v309
  let v311 : BitVec 32 := Scalar.addi v310 c256_i32_248
  let c0_i32_250 : BitVec 32 := 0#32
  ![v311.toNat, 0]
def k0_off10 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_263 : BitVec 32 := 1024#32
  let v326 : BitVec 32 := Scalar.muli v19 c1024_i32_263
  let v327 : BitVec 32 := Scalar.addi v28 v326
  let c64_i32_264 : BitVec 32 := 64#32
  let v328 : BitVec 32 := Scalar.addi v327 c64_i32_264
  let c0_i32_270 : BitVec 32 := 0#32
  ![v328.toNat, 0]
def k0_dev17 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v329 : BitVec 32 := Scalar.muli v2 c4_i32_266
  let v330 : BitVec 32 := Scalar.addi c0_i32_267 v329
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_268 : BitVec 32 := 2#32
  let v331 : BitVec 32 := Scalar.muli v10 c2_i32_268
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v333 : BitVec 32 := Scalar.muli v8 c1_i32_269
  let v334 : BitVec 32 := Scalar.addi v332 v333
  v334.toNat
def k0_off11 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_289 : BitVec 32 := 1024#32
  let v358 : BitVec 32 := Scalar.muli v16 c1024_i32_289
  let v359 : BitVec 32 := Scalar.addi v28 v358
  let c64_i32_290 : BitVec 32 := 64#32
  let v360 : BitVec 32 := Scalar.addi v359 c64_i32_290
  let c0_i32_291 : BitVec 32 := 0#32
  ![v360.toNat, 0]
def k0_dev18 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v375 : BitVec 32 := Scalar.muli v2 c4_i32_306
  let v376 : BitVec 32 := Scalar.addi c0_i32_307 v375
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_308 : BitVec 32 := 2#32
  let v377 : BitVec 32 := Scalar.muli v10 c2_i32_308
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_309 : BitVec 32 := 1#32
  let v379 : BitVec 32 := Scalar.muli v8 c1_i32_309
  let v380 : BitVec 32 := Scalar.addi v378 v379
  v380.toNat
def k0_dev19 (d0 : Dev nD) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v387 : BitVec 32 := Scalar.muli v2 c4_i32_316
  let v388 : BitVec 32 := Scalar.addi c0_i32_317 v387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v389 : BitVec 32 := Scalar.muli v5 c2_i32_318
  let v390 : BitVec 32 := Scalar.addi v388 v389
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_319 : BitVec 32 := 1#32
  let v391 : BitVec 32 := Scalar.muli v11 c1_i32_319
  let v392 : BitVec 32 := Scalar.addi v390 v391
  v392.toNat
def k0_off12 (d0 : Dev nD) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_340 : BitVec 32 := 1024#32
  let v416 : BitVec 32 := Scalar.muli v19 c1024_i32_340
  let v417 : BitVec 32 := Scalar.addi v28 v416
  let c256_i32_341 : BitVec 32 := 256#32
  let v418 : BitVec 32 := Scalar.addi v417 c256_i32_341
  let c0_i32_347 : BitVec 32 := 0#32
  ![v418.toNat, 0]
def k0_dev20 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v419 : BitVec 32 := Scalar.muli v2 c4_i32_343
  let v420 : BitVec 32 := Scalar.addi c0_i32_344 v419
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_345 : BitVec 32 := 2#32
  let v421 : BitVec 32 := Scalar.muli v10 c2_i32_345
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v423 : BitVec 32 := Scalar.muli v8 c1_i32_346
  let v424 : BitVec 32 := Scalar.addi v422 v423
  v424.toNat
def k0_off13 (d0 : Dev nD) (c256_i32_351 : BitVec 32) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_350 : BitVec 32 := 1024#32
  let v431 : BitVec 32 := Scalar.muli v19 c1024_i32_350
  let v432 : BitVec 32 := Scalar.addi v28 v431
  let v433 : BitVec 32 := Scalar.addi v432 c256_i32_351
  let c0_i32_353 : BitVec 32 := 0#32
  ![v433.toNat, 0]
def k0_off14 (d0 : Dev nD) (c344_i32 : BitVec 32) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_366 : BitVec 32 := 1024#32
  let v448 : BitVec 32 := Scalar.muli v16 c1024_i32_366
  let v449 : BitVec 32 := Scalar.addi v28 v448
  let v450 : BitVec 32 := Scalar.addi v449 c344_i32
  let c0_i32_373 : BitVec 32 := 0#32
  ![v450.toNat, 0]
def k0_dev21 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v451 : BitVec 32 := Scalar.muli v2 c4_i32_369
  let v452 : BitVec 32 := Scalar.addi c0_i32_370 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v453 : BitVec 32 := Scalar.muli v5 c2_i32_371
  let v454 : BitVec 32 := Scalar.addi v452 v453
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_372 : BitVec 32 := 1#32
  let v455 : BitVec 32 := Scalar.muli v11 c1_i32_372
  let v456 : BitVec 32 := Scalar.addi v454 v455
  v456.toNat
def k0_off15 (d0 : Dev nD) (c256_i32_377 : BitVec 32) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4096_i32_16 : BitVec 32 := 4096#32
  let v28 : BitVec 32 := Scalar.muli v27 c4096_i32_16
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_376 : BitVec 32 := 1024#32
  let v463 : BitVec 32 := Scalar.muli v16 c1024_i32_376
  let v464 : BitVec 32 := Scalar.addi v28 v463
  let v465 : BitVec 32 := Scalar.addi v464 c256_i32_377
  let c0_i32_378 : BitVec 32 := 0#32
  ![v465.toNat, 0]
def k0_dev22 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_393 : BitVec 32 := 4#32
  let v480 : BitVec 32 := Scalar.muli v2 c4_i32_393
  let v481 : BitVec 32 := Scalar.addi c0_i32_394 v480
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_395 : BitVec 32 := 2#32
  let v482 : BitVec 32 := Scalar.muli v10 c2_i32_395
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v484 : BitVec 32 := Scalar.muli v8 c1_i32_396
  let v485 : BitVec 32 := Scalar.addi v483 v484
  v485.toNat
def k0_dev23 (d0 : Dev nD) : Nat :=
  let c0_i32_404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_403 : BitVec 32 := 4#32
  let v492 : BitVec 32 := Scalar.muli v2 c4_i32_403
  let v493 : BitVec 32 := Scalar.addi c0_i32_404 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v494 : BitVec 32 := Scalar.muli v5 c2_i32_405
  let v495 : BitVec 32 := Scalar.addi v493 v494
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_406 : BitVec 32 := 1#32
  let v496 : BitVec 32 := Scalar.muli v11 c1_i32_406
  let v497 : BitVec 32 := Scalar.addi v495 v496
  v497.toNat
def k0_dev24 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v541 : BitVec 32 := Scalar.muli v2 c4_i32_446
  let v542 : BitVec 32 := Scalar.addi c0_i32_447 v541
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v543 : BitVec 32 := Scalar.muli v5 c2_i32_448
  let v544 : BitVec 32 := Scalar.addi v542 v543
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_449 : BitVec 32 := 1#32
  let v545 : BitVec 32 := Scalar.muli v11 c1_i32_449
  let v546 : BitVec 32 := Scalar.addi v544 v545
  v546.toNat
def k0_off16 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32_489 : BitVec 32 := 4096#32
  let v595 : BitVec 32 := Scalar.muli v2 c4096_i32_489
  let c0_i32_490 : BitVec 32 := 0#32
  ![v595.toNat, 0]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Blocks.lean ====
/-
# The mesh, the blocks each buffer comes to hold, and the tables of the kernel's copies

Eight devices stand on a 2 × 2 × 2 mesh. Device `c` sits at `(c / 4, c / 2 % 2, c % 2)` and exchanges data only with the
three devices that differ from it in one coordinate. What every buffer is to hold is given here as plain functions of a
row and a column, so that each copy is checked by one equation between such functions. The kernel's 21 copies between
devices and its 19 copies within a device are listed in two tables, in the order the program starts them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds library's algebra: a cell's duties are named by the three mesh axes. -/
abbrev UB : Type := URounds (GSem nD τ sig) (Fin 3)
/-- The launch's algebra, the rounds' and the counters of copies within a device. -/
abbrev UU : Type := UR sig nD τ × (UB × Counters)

local notation "𝕄" => MT nD τ sig Unit (Elt F) ℕ UU ℕ

variable (m : (ℓ : Loc nD τ sig) → Buf (Elt F) ℓ)

/-! ## The mesh -/

set_option backward.proofsInPublic true in
/-- The device across axis `a`. -/
def flip (a : Fin 3) (c : Dev nD) : Dev nD :=
  if a = 0 then ⟨(c.val + 4) % 8, Nat.mod_lt _ (by decide)⟩
  else if a = 1 then ⟨4 * (c.val / 4) + (c.val + 2) % 4, by have := c.isLt; unfold nD at this; show _ < 8; omega⟩
  else ⟨2 * (c.val / 2) + (c.val + 1) % 2, by have := c.isLt; unfold nD at this; show _ < 8; omega⟩

abbrev xp (c : Dev nD) : Dev nD := flip 0 c
abbrev yp (c : Dev nD) : Dev nD := flip 1 c
abbrev zp (c : Dev nD) : Dev nD := flip 2 c

theorem flip_flip (a : Fin 3) (c : Dev nD) : flip a (flip a c) = c := by revert a c; decide +kernel
theorem flip_comm (a b : Fin 3) (c : Dev nD) : flip a (flip b c) = flip b (flip a c) := by revert a b c; decide +kernel
theorem flip_inj {a b : Fin 3} {c : Dev nD} (h : flip a c = flip b c) : a = b := by revert a b c; decide +kernel

/-- Flipping along an axis, as a permutation of the devices. -/
def flipEquiv (a : Fin 3) : Dev nD ≃ Dev nD := ⟨flip a, flip a, flip_flip a, flip_flip a⟩

/-- The first coordinate of a device. -/
abbrev xc (c : Dev nD) : ℕ := c.val / 4
/-- The quarter a device sends first: `2y + z`. -/
abbrev q (c : Dev nD) : ℕ := c.val % 4
/-- The quarter of the device opposite in both `y` and `z`. -/
abbrev qd (c : Dev nD) : ℕ := 3 - c.val % 4

theorem xc_xp (c : Dev nD) : xc (xp c) = 1 - xc c := by revert c; decide +kernel
theorem xc_yp (c : Dev nD) : xc (yp c) = xc c := by revert c; decide +kernel
theorem xc_zp (c : Dev nD) : xc (zp c) = xc c := by revert c; decide +kernel
theorem q_xp (c : Dev nD) : q (xp c) = q c := by revert c; decide +kernel
theorem q_yp (c : Dev nD) : q (yp c) = (c.val + 2) % 4 := by revert c; decide +kernel
theorem q_zp (c : Dev nD) : q (zp c) = 2 * (c.val / 2 % 2) + (c.val + 1) % 2 := by revert c; decide +kernel

/-! ## The buffers and what they come to hold -/

/-- The buffers a device copies between: the argument, the result, the staged rows, the rows received along each axis,
    the rows kept. -/
inductive Bf | ar | ou | sb | xr | yr | zr | kb
deriving DecidableEq

/-- The buffer's reference in the program. -/
abbrev ref : Bf → Ref sig .tc
  | .ar => main_arg0 | .ou => main_v1 | .sb => cc0_scratch0 | .xr => cc0_scratch1 | .yr => cc0_scratch2 | .zr => cc0_scratch3 | .kb => cc0_scratch4

/-- The row of an index. -/
def row : (b : Bf) → (ref b).ty.Idx → ℕ
  | .ar, i => (i 0).val | .ou, i => (i 0).val | .sb, i => (i 0).val | .xr, i => (i 0).val | .yr, i => (i 0).val | .zr, i => (i 0).val | .kb, i => (i 0).val
/-- The column of an index. -/
def col : (b : Bf) → (ref b).ty.Idx → ℕ
  | .ar, i => (i 1).val | .ou, i => (i 1).val | .sb, i => (i 1).val | .xr, i => (i 1).val | .yr, i => (i 1).val | .zr, i => (i 1).val | .kb, i => (i 1).val

set_option backward.proofsInPublic true in
/-- The index of the argument at a row and a column (taken modulo the extents). -/
def argIdx (r j : ℕ) : S4096x2048.Idx := fun a =>
  match a with
  | ⟨0, _⟩ => (⟨r % 4096, Nat.mod_lt _ (by decide)⟩ : Fin 4096)
  | ⟨1, _⟩ => (⟨j % 2048, Nat.mod_lt _ (by decide)⟩ : Fin 2048)

/-- Device `c`'s argument at row `r`, column `j`. -/
def gN (c : Dev nD) (r j : ℕ) : Elt F .f32 := m ((c : Thread nD τ).loc main_arg0) (argIdx r j)
/-- The staged rows: the device's own quarter, then the tail of the opposite quarter, at the other half's columns. -/
def sN (c : Dev nD) (r j : ℕ) : Elt F .f32 :=
  if r < 1024 then gN m c (1024 * q c + r) (1024 * (1 - xc c) + j) else gN m c (1024 * qd c + r - 344) (1024 * (1 - xc c) + j)
/-- The rows received across `x`, across `y` and across `z`; the rows kept. -/
def xN (c : Dev nD) : ℕ → ℕ → Elt F .f32 := sN m (xp c)
def yN (c : Dev nD) : ℕ → ℕ → Elt F .f32 := xN m (yp c)
def zN (c : Dev nD) : ℕ → ℕ → Elt F .f32 := xN m (zp c)
def kN (c : Dev nD) (r j : ℕ) : Elt F .f32 := gN m c r (1024 * xc c + j)
/-- The result's row `s` of quarter `k` of the other half's rows. -/
def fN (c : Dev nD) (k s j : ℕ) : Elt F .f32 :=
  if k = q c then xN m c s j else if k = q (yp c) then yN m c s j else if k = q (zp c) then zN m c s j
  else if s < 344 then zN m (yp c) s j else if s < 680 then yN m (zp c) s j else sN m (xp c) (s + 344) j
/-- The result. -/
def oN (c : Dev nD) (r j : ℕ) : Elt F .f32 :=
  if r / 4096 = xc c then kN m c (r % 4096) j else fN m c (r % 4096 / 1024) (r % 1024) j

/-- What a buffer is to hold, by row and column. -/
def valN (c : Dev nD) : Bf → ℕ → ℕ → Elt F .f32
  | .ar => gN m c | .ou => oN m c | .sb => sN m c | .xr => xN m c | .yr => yN m c | .zr => zN m c | .kb => kN m c

/-- What a buffer is to hold. -/
def val (c : Dev nD) : (b : Bf) → (ref b).ty.Contents (Elt F)
  | .ar => fun i => gN m c (i 0).val (i 1).val | .ou => fun i => oN m c (i 0).val (i 1).val | .sb => fun i => sN m c (i 0).val (i 1).val
  | .xr => fun i => xN m c (i 0).val (i 1).val | .yr => fun i => yN m c (i 0).val (i 1).val | .zr => fun i => zN m c (i 0).val (i 1).val
  | .kb => fun i => kN m c (i 0).val (i 1).val

omit [FloatOps F] in
/-- The argument's contents are its own. -/
theorem val_ar (c : Dev nD) : val m c .ar = m ((c : Thread nD τ).loc main_arg0) := by
  funext i
  show m ((c : Thread nD τ).loc main_arg0) (argIdx (i 0).val (i 1).val) = m ((c : Thread nD τ).loc main_arg0) i
  congr 1
  funext a
  match a with
  | ⟨0, _⟩ => exact Fin.ext (Nat.mod_eq_of_lt (i 0).isLt)
  | ⟨1, _⟩ => exact Fin.ext (Nat.mod_eq_of_lt (i 1).isLt)

/-! ## Regions -/

/-- The `n` rows from `lo`, at the 1024 columns from `co`. -/
def reg (b : Bf) (lo n co : ℕ) : Finset (ref b).ty.Idx :=
  Finset.univ.filter fun i => (lo ≤ row b i ∧ row b i < lo + n) ∧ (co ≤ col b i ∧ col b i < co + 1024)

/-- Device `c`'s region of buffer `b`, at a share, holding `f`. -/
def pts (c : Dev nD) (b : Bf) (lo n co : ℕ) (s : PosShare TreeShare) (f : (ref b).ty.Contents (Elt F)) : sProp 𝕄 :=
  (c : Thread nD τ).loc (ref b) ↦[reg b lo n co]{s} (f : Buf (Elt F) ((c : Thread nD τ).loc (ref b)))

/-- The region holding what it is to hold. -/
def have' (c : Dev nD) (b : Bf) (lo n co : ℕ) (s : PosShare TreeShare) : sProp 𝕄 := pts c b lo n co s (val m c b)

/-- The region, whole share, holding anything. -/
def free (c : Dev nD) (b : Bf) (lo n : ℕ) : sProp 𝕄 := iprop(∃ f, pts (F := F) c b lo n 0 fullShare f)

/-! ## The copies between devices -/

/-- One copy to a neighbour: its axis, its source (buffer, first row, rows, share), its target (buffer, first row; in the
    result, the row within the opposite quarter), its two semaphores, the level of its arrival. -/
structure Xfer where
  ax : Fin 3
  sB : Bf
  lo : ℕ
  n : ℕ
  sh : PosShare TreeShare
  dB : Bf
  dlo : ℕ
  ss : Fin 61
  rs : Fin 61
  lv : ℕ

/-- The share a chunk's copy across `y`, across `z` and within the device reads at. -/
abbrev shY : PosShare TreeShare := fullShare.left
abbrev shZ : PosShare TreeShare := fullShare.right.left
abbrev shC : PosShare TreeShare := fullShare.right.right

/-- The copies between devices, in program order. -/
def tb : Fin 21 → Xfer := ![
  ⟨0, .sb, 0, 64, fullShare, .xr, 0, 4, 10, 2⟩,
  ⟨0, .sb, 64, 192, fullShare, .xr, 64, 5, 11, 2⟩,
  ⟨0, .sb, 256, 256, fullShare, .xr, 256, 6, 12, 2⟩,
  ⟨0, .sb, 512, 256, fullShare, .xr, 512, 7, 13, 2⟩,
  ⟨0, .sb, 768, 256, fullShare, .xr, 768, 8, 14, 2⟩,
  ⟨0, .sb, 1024, 344, fullShare, .ou, 680, 9, 15, 2⟩,
  ⟨1, .xr, 0, 64, shY, .yr, 0, 16, 24, 3⟩,
  ⟨2, .xr, 0, 64, shZ, .zr, 0, 32, 39, 3⟩,
  ⟨1, .xr, 64, 192, shY, .yr, 64, 17, 25, 4⟩,
  ⟨2, .xr, 64, 192, shZ, .zr, 64, 33, 40, 4⟩,
  ⟨1, .zr, 0, 64, shY, .ou, 0, 21, 29, 100⟩,
  ⟨1, .xr, 256, 256, shY, .yr, 256, 18, 26, 5⟩,
  ⟨2, .xr, 256, 256, shZ, .zr, 256, 34, 41, 5⟩,
  ⟨1, .zr, 64, 192, shY, .ou, 64, 22, 30, 100⟩,
  ⟨1, .xr, 512, 256, shY, .yr, 512, 19, 27, 6⟩,
  ⟨2, .xr, 512, 256, shZ, .zr, 512, 35, 42, 6⟩,
  ⟨1, .zr, 256, 88, shY, .ou, 256, 23, 31, 100⟩,
  ⟨2, .yr, 344, 168, shY, .ou, 344, 37, 44, 100⟩,
  ⟨1, .xr, 768, 256, shY, .yr, 768, 20, 28, 7⟩,
  ⟨2, .xr, 768, 256, shZ, .zr, 768, 36, 43, 7⟩,
  ⟨2, .yr, 512, 168, shY, .ou, 512, 38, 45, 100⟩]

/-- The first row of the opposite quarter of the other half's rows, in the result. -/
abbrev oppRow (c : Dev nD) : ℕ := 4096 * (1 - xc c) + 1024 * qd c
/-- The first row of the region of device `c` that copy `t` into it writes. -/
def dRow (t : Fin 21) (c : Dev nD) : ℕ := if (tb t).dB = .ou then oppRow c + (tb t).dlo else (tb t).dlo
/-- The device copy `t` goes to from `c`, and the one it comes from. -/
abbrev peer (t : Fin 21) (c : Dev nD) : Dev nD := flip (tb t).ax c

/-- What copy `t` adds to the semaphores it completes. -/
def amt (t : Fin 21) : ℕ := (ref (tb t).dB).dmaCredit ⟨2, ![(tb t).n, 1024]⟩ .f32

/-- What the sender gets back: the region it read. -/
def sendPay (t : Fin 21) (c : Dev nD) : sProp 𝕄 := have' m c (tb t).sB (tb t).lo (tb t).n 0 (tb t).sh
/-- What the receiver gets: the region written. -/
def recvPay (t : Fin 21) (c : Dev nD) : sProp 𝕄 := have' m c (tb t).dB (dRow t c) (tb t).n 0 fullShare
/-- The region the receiver offers. -/
def landing (t : Fin 21) (c : Dev nD) : sProp 𝕄 := free c (tb t).dB (dRow t c) (tb t).n

/-! ## The copies within a device -/

/-- One copy within a device: its source (buffer, first row, first column, share), its rows, its target (buffer, first
    row), its semaphore. -/
structure Lcl where
  sB : Bf
  lo : Dev nD → ℕ
  co : Dev nD → ℕ
  n : ℕ
  sh : PosShare TreeShare
  dB : Bf
  dlo : Dev nD → ℕ
  s : Fin 61

/-- The row of the result where quarter `k` of the other half's rows starts. -/
abbrev quart (c : Dev nD) (k : ℕ) : ℕ := 4096 * (1 - xc c) + 1024 * k

/-- The copy of a chunk received across `x`, `y`, `z` to the result. -/
abbrev cpX (lo n : ℕ) (s : Fin 61) : Lcl := ⟨.xr, fun _ => lo, fun _ => 0, n, shC, .ou, fun c => quart c (q c) + lo, s⟩
abbrev cpZ (lo n : ℕ) (s : Fin 61) : Lcl := ⟨.zr, fun _ => lo, fun _ => 0, n, fullShare.right, .ou, fun c => quart c (q (zp c)) + lo, s⟩
abbrev cpY (lo n : ℕ) (s : Fin 61) : Lcl := ⟨.yr, fun _ => lo, fun _ => 0, n, fullShare.right, .ou, fun c => quart c (q (yp c)) + lo, s⟩

/-- The copies within a device. -/
def lb : Fin 19 → Lcl := ![
  ⟨.ar, fun _ => 0, fun c => 1024 * xc c, 4096, shY, .kb, fun _ => 0, 0⟩,
  ⟨.ar, fun c => 1024 * q c, fun c => 1024 * (1 - xc c), 1024, shZ, .sb, fun _ => 0, 2⟩,
  ⟨.ar, fun c => 1024 * qd c + 680, fun c => 1024 * (1 - xc c), 344, shC, .sb, fun _ => 1024, 3⟩,
  cpX 0 64 46, cpX 64 192 47, cpX 256 256 48, cpX 512 256 49, cpX 768 256 50,
  cpZ 0 64 51, cpZ 64 192 52, cpZ 256 256 53, cpZ 512 256 54, cpZ 768 256 55,
  cpY 0 64 56, cpY 64 192 57, cpY 256 256 58, cpY 512 256 59, cpY 768 256 60,
  ⟨.kb, fun _ => 0, fun _ => 0, 4096, fullShare, .ou, fun c => 4096 * xc c, 1⟩]

/-- What copy `l` adds to its semaphore. -/
def lamt (l : Fin 19) : ℕ := (ref (lb l).dB).dmaCredit ⟨2, ![(lb l).n, 1024]⟩ .f32
/-- The source of copy `l`. -/
def locSrc (l : Fin 19) (c : Dev nD) : sProp 𝕄 := have' m c (lb l).sB ((lb l).lo c) (lb l).n ((lb l).co c) (lb l).sh
/-- The target of copy `l`, before and after. -/
def locFree (l : Fin 19) (c : Dev nD) : sProp 𝕄 := free c (lb l).dB ((lb l).dlo c) (lb l).n
def locDst (l : Fin 19) (c : Dev nD) : sProp 𝕄 := have' m c (lb l).dB ((lb l).dlo c) (lb l).n 0 fullShare
/-- What the wait for copy `l` gives. -/
def locPay (l : Fin 19) (c : Dev nD) : sProp 𝕄 := iprop(locDst m l c ∗ locSrc m l c)

theorem amt_pos (t : Fin 21) : 0 < amt t := by revert t; decide +kernel
theorem lamt_pos (l : Fin 19) : 0 < lamt l := by revert l; decide +kernel

end Cert.Exchange

end
-- ==== Proof.Values.lean ====
/-
# What each copy carries

The equations between the buffers' intended contents that the copies rely on: the rows a copy reads on its sender are the
rows it is to write on its receiver. Each is a statement about a row, a column and a device.
-/
module

public import proofs.«01_k».proof.Proof.Blocks

@[expose] public section

set_option maxRecDepth 16384

noncomputable section

namespace Cert.Exchange

open Cert.KernelIdeal Cert.KernelIdeal.Gen
open Idealize.ShloMosaic
open Idealize.ShloMosaic.TcCoe

variable {F : FTy → Type}
variable (m : (ℓ : Loc nD τ sig) → Buf (Elt F) ℓ)

theorem xp_xp (c : Dev nD) : xp (xp c) = c := flip_flip _ c
theorem yp_yp (c : Dev nD) : yp (yp c) = c := flip_flip _ c
theorem zp_zp (c : Dev nD) : zp (zp c) = c := flip_flip _ c

theorem xc_lt (c : Dev nD) : xc c < 2 := by revert c; decide +kernel
theorem q_lt (c : Dev nD) : q c < 4 := Nat.mod_lt _ (by decide)
theorem qd_lt (c : Dev nD) : qd c < 4 := by revert c; decide +kernel

/-- The result's rows of the device's own half. -/
theorem oN_near (c : Dev nD) (r j : ℕ) (hr : r < 4096) : oN m c (4096 * xc c + r) j = kN m c r j := by
  unfold oN
  rw [if_pos (by omega), show (4096 * xc c + r) % 4096 = r by omega]

/-- The result's rows of the other half, by quarter. -/
theorem oN_far (c : Dev nD) (k s j : ℕ) (hk : k < 4) (hs : s < 1024) : oN m c (4096 * (1 - xc c) + 1024 * k + s) j = fN m c k s j := by
  have hx := xc_lt c
  unfold oN
  rw [if_neg (by omega), show (4096 * (1 - xc c) + 1024 * k + s) % 4096 / 1024 = k by omega,
    show (4096 * (1 - xc c) + 1024 * k + s) % 1024 = s by omega]

theorem q_ne (c : Dev nD) : q (yp c) ≠ q c ∧ q (zp c) ≠ q c ∧ q (zp c) ≠ q (yp c) ∧ qd c ≠ q c ∧ qd c ≠ q (yp c) ∧ qd c ≠ q (zp c) := by
  revert c; decide +kernel

theorem fN_q (c : Dev nD) (s j : ℕ) : fN m c (q c) s j = xN m c s j := if_pos rfl
theorem fN_qy (c : Dev nD) (s j : ℕ) : fN m c (q (yp c)) s j = yN m c s j := by
  unfold fN; rw [if_neg (q_ne c).1, if_pos rfl]
theorem fN_qz (c : Dev nD) (s j : ℕ) : fN m c (q (zp c)) s j = zN m c s j := by
  unfold fN; rw [if_neg (q_ne c).2.1, if_neg (q_ne c).2.2.1, if_pos rfl]
theorem fN_qd (c : Dev nD) (s j : ℕ) :
    fN m c (qd c) s j = if s < 344 then zN m (yp c) s j else if s < 680 then yN m (zp c) s j else sN m (xp c) (s + 344) j := by
  unfold fN; rw [if_neg (q_ne c).2.2.2.1, if_neg (q_ne c).2.2.2.2.1, if_neg (q_ne c).2.2.2.2.2]

/-! ## The copies between devices -/

theorem carry_x (c : Dev nD) : xN m (xp c) = sN m c := by unfold xN; rw [xp_xp]
theorem carry_y (c : Dev nD) : yN m (yp c) = xN m c := by unfold yN; rw [yp_yp]
theorem carry_z (c : Dev nD) : zN m (zp c) = xN m c := by unfold zN; rw [zp_zp]

theorem carry_e (c : Dev nD) (r j : ℕ) (hr : r < 344) : oN m (xp c) (oppRow (xp c) + 680 + r) j = sN m c (1024 + r) j := by
  unfold oppRow
  rw [show 4096 * (1 - xc (xp c)) + 1024 * qd (xp c) + 680 + r = 4096 * (1 - xc (xp c)) + 1024 * qd (xp c) + (680 + r) by omega,
    oN_far m _ _ _ _ (qd_lt _) (by omega), fN_qd, if_neg (by omega), if_neg (by omega), xp_xp]
  congr 1; omega

theorem carry_a (c : Dev nD) (s j : ℕ) (hs : s < 344) : oN m (yp c) (oppRow (yp c) + s) j = zN m c s j := by
  unfold oppRow
  rw [oN_far m _ _ _ _ (qd_lt _) (by omega), fN_qd, if_pos hs, yp_yp]

theorem carry_b (c : Dev nD) (s j : ℕ) (h0 : 344 ≤ s) (hs : s < 680) : oN m (zp c) (oppRow (zp c) + s) j = yN m c s j := by
  unfold oppRow
  rw [oN_far m _ _ _ _ (qd_lt _) (by omega), fN_qd, if_neg (by omega), if_pos hs, zp_zp]

/-! ## The copies within a device -/

theorem carry_cx (c : Dev nD) (s j : ℕ) (hs : s < 1024) : oN m c (quart c (q c) + s) j = xN m c s j := by
  unfold quart; rw [oN_far m _ _ _ _ (q_lt _) hs, fN_q]
theorem carry_cy (c : Dev nD) (s j : ℕ) (hs : s < 1024) : oN m c (quart c (q (yp c)) + s) j = yN m c s j := by
  unfold quart; rw [oN_far m _ _ _ _ (q_lt _) hs, fN_qy]
theorem carry_cz (c : Dev nD) (s j : ℕ) (hs : s < 1024) : oN m c (quart c (q (zp c)) + s) j = zN m c s j := by
  unfold quart; rw [oN_far m _ _ _ _ (q_lt _) hs, fN_qz]

theorem carry_s0 (c : Dev nD) (r j : ℕ) (hr : r < 1024) : sN m c r j = gN m c (1024 * q c + r) (1024 * (1 - xc c) + j) := if_pos hr
theorem carry_s1 (c : Dev nD) (r j : ℕ) : sN m c (1024 + r) j = gN m c (1024 * qd c + 680 + r) (1024 * (1 - xc c) + j) := by
  unfold sN
  rw [if_neg (by omega), show 1024 * qd c + (1024 + r) - 344 = 1024 * qd c + 680 + r by omega]

end Cert.Exchange

end
-- ==== Proof.Schedule.lean ====
/-
# The schedule of the semaphores

Every semaphore that passes between devices is used for one round. A device's barrier semaphore has three duties, one per
axis, of one unit each: the neighbour across an axis offers the regions that the copies along that axis write on it. The
42 semaphores of the copies between devices have one duty each: the sender's gives back the region read, the receiver's
gives the region written.
-/
module

public import proofs.«01_k».proof.Proof.Blocks

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The launch's algebra, the rounds' and the local copies' inside the whole. -/
abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance : (ER (F := F)).LandsIn (upEmb : UEmb _ 𝕄) := by unfold ER; infer_instance

variable (m : (ℓ : Loc nD τ sig) → Buf (Elt F) ℓ)

/-! ## The cells -/

/-- The barrier semaphore. -/
abbrev barS : Sem sig := (SemArray.scalar (sig.barrier 0 rfl) : Sems sig S_).sem

/-- The semaphore of a copy between devices: the sender's (`false`) or the receiver's (`true`). -/
def semOf (x : Bool × Fin 21) : Fin 61 := if x.1 then (tb x.2).rs else (tb x.2).ss

theorem semOf_inj : Function.Injective semOf := by decide +kernel
theorem semOf_ne_local (x : Bool × Fin 21) (l : Fin 19) : semOf x ≠ (lb l).s := by revert x l; decide +kernel
theorem lb_s_inj : Function.Injective fun l => (lb l).s := by decide +kernel

/-- A device's cells: its barrier's (`none`) and those of the copies between devices. -/
def csem : Option (Bool × Fin 21) → SemLoc sig
  | none => .reg barS
  | some x => .dma (semOf x)

theorem csem_inj : Function.Injective csem := by
  rintro (_ | x) (_ | y) h
  · rfl
  · cases h
  · cases h
  · exact congrArg some (semOf_inj (SemLoc.dma.inj h))

abbrev cell (c : Dev nD) (k : Option (Bool × Fin 21)) : GSem nD τ sig := ((c : Thread nD τ), csem k)
abbrev barCell (c : Dev nD) : GSem nD τ sig := cell c none
abbrev sendCell (t : Fin 21) (c : Dev nD) : GSem nD τ sig := cell c (some (false, t))
abbrev recvCell (t : Fin 21) (c : Dev nD) : GSem nD τ sig := cell c (some (true, t))
abbrev locCell (l : Fin 19) (c : Dev nD) : GSem nD τ sig := ((c : Thread nD τ), .dma (lb l).s)

theorem cell_inj {c c' : Dev nD} {k k' : Option (Bool × Fin 21)} (h : cell c k = cell c' k') : c = c' ∧ k = k' := by
  have h1 : (c : Thread nD τ) = (c' : Thread nD τ) := congrArg Prod.fst h
  exact ⟨congrArg Prod.fst h1, csem_inj (congrArg Prod.snd h)⟩

/-! ## The schedule -/

/-- What the neighbour across axis `a` offers device `c`: the regions the copies along that axis write on it. -/
def barPay (c : Dev nD) (a : Fin 3) : sProp 𝕄 := bigSep (Finset.univ.filter fun t => (tb t).ax = a) fun t => landing t (flip a c)
/-- What a copy's cell hands over. -/
def payOf (x : Bool × Fin 21) (c : Dev nD) : sProp 𝕄 := if x.1 then recvPay m x.2 c else sendPay m x.2 c

instance pts_storable (c : Dev nD) (b lo n co s f) : BI.Storable (upEmb : UEmb _ 𝕄) (pts (F := F) c b lo n co s f) := by unfold pts; infer_instance
instance have_storable (c : Dev nD) (b lo n co s) : BI.Storable (upEmb : UEmb _ 𝕄) (have' m c b lo n co s) := by unfold have'; infer_instance
instance free_storable (c : Dev nD) (b lo n) : BI.Storable (upEmb : UEmb _ 𝕄) (free (F := F) c b lo n) := by unfold free; infer_instance
instance barPay_storable (c : Dev nD) (a : Fin 3) : BI.Storable (upEmb : UEmb _ 𝕄) (barPay (F := F) c a) := by unfold barPay landing; infer_instance
instance payOf_storable (x : Bool × Fin 21) (c : Dev nD) : BI.Storable (upEmb : UEmb _ 𝕄) (payOf m x c) := by
  unfold payOf recvPay sendPay; split <;> infer_instance

/-- The duties of a semaphore's only round. -/
def dutiesOf : SemLoc sig → Finset (Fin 3)
  | .reg _ => Finset.univ
  | .dma k => if ∃ x, semOf x = k then {0} else ∅

def sched : Rounds.Schedule (GSem nD τ sig) (Fin 3) 𝕄 where
  duties g r := if r = 0 ∧ g.1.2 = .tc then dutiesOf g.2 else ∅
  unitless _ := False
  amount g _ _ := match g.2 with
    | .reg _ => 1
    | .dma k => Function.extend semOf (fun x => amt x.2) (fun _ => 1) k
  payload g _ d := match g.2 with
    | .reg _ => barPay g.1.1 d
    | .dma k => Function.extend semOf (fun x => payOf m x g.1.1) (fun _ => iprop(emp)) k
  amount_pos g _ _ _ := by
    rcases g with ⟨g1, s | k⟩
    · exact Nat.one_pos
    · show 0 < Function.extend semOf (fun x => amt x.2) (fun _ => 1) k
      by_cases h : ∃ x, semOf x = k
      · obtain ⟨x, rfl⟩ := h
        rw [semOf_inj.extend_apply]; exact amt_pos _
      · rw [Function.extend_apply' _ _ _ h]; exact Nat.one_pos

instance sched_payload_storable (g : GSem nD τ sig) (r : ℕ) (d : Fin 3) :
    BI.Storable (upEmb : UEmb _ 𝕄) ((sched m).payload g r d) := by
  rcases g with ⟨g1, s | k⟩
  · show BI.Storable upEmb (barPay g1.1 d); infer_instance
  · show BI.Storable upEmb (Function.extend semOf (fun x => payOf m x g1.1) (fun _ => iprop(emp)) k)
    by_cases h : ∃ x, semOf x = k
    · obtain ⟨x, rfl⟩ := h
      rw [semOf_inj.extend_apply]; infer_instance
    · rw [Function.extend_apply' _ _ _ h]; infer_instance

omit [FloatOps F] in
/-- A resource for every copy, gathered axis by axis. -/
theorem axes_split (Φ : Fin 21 → sProp 𝕄) (s : Finset (Fin 3)) :
    bigSep s (fun a => bigSep (Finset.univ.filter fun t => (tb t).ax = a) Φ) = bigSep (Finset.univ.filter fun t => (tb t).ax ∈ s) Φ := by
  induction s using Finset.induction_on with
  | empty => simp
  | insert a s ha ih =>
    rw [bigSep_insert ha, ih, ← bigSep_union]
    · congr 1; ext t; simp
    · exact Finset.disjoint_left.mpr fun t h1 h2 => ha ((Finset.mem_filter.mp h1).2 ▸ (Finset.mem_filter.mp h2).2)

section Sched
variable (c : Dev nD) (x : Bool × Fin 21)

omit [FloatOps F] in
theorem duties_bar : (sched m).duties (barCell c) 0 = Finset.univ := by
  dsimp only [sched]; rw [if_pos ⟨rfl, rfl⟩]; rfl
omit [FloatOps F] in
theorem duties_cell : (sched m).duties (cell c (some x)) 0 = {0} := by
  dsimp only [sched]; rw [if_pos ⟨rfl, rfl⟩]; exact if_pos (⟨x, rfl⟩ : ∃ y, semOf y = semOf x)
omit [FloatOps F] in
theorem duties_later (g : GSem nD τ sig) : ∀ r, 1 ≤ r → (sched m).duties g r = ∅ := fun r hr => by
  dsimp only [sched]; exact if_neg fun h => by omega
omit [FloatOps F] in
theorem amount_bar (d : Fin 3) : (sched m).amount (barCell c) 0 d = 1 := rfl
omit [FloatOps F] in
theorem amount_cell (d : Fin 3) : (sched m).amount (cell c (some x)) 0 d = amt x.2 :=
  semOf_inj.extend_apply (fun x : Bool × Fin 21 => amt x.2) (fun _ => 1) x
omit [FloatOps F] in
theorem payload_bar (d : Fin 3) : (sched m).payload (barCell c) 0 d = barPay c d := rfl
omit [FloatOps F] in
theorem payload_cell (d : Fin 3) : (sched m).payload (cell c (some x)) 0 d = payOf m x c :=
  semOf_inj.extend_apply (fun x => payOf m x c) (fun _ => iprop(emp)) x
omit [FloatOps F] in
theorem expect_bar : (sched m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_cell : (sched m).expect (cell c (some x)) 0 = amt x.2 := by
  unfold Schedule.expect Schedule.amountOf; rw [duties_cell, Finset.sum_singleton, amount_cell]
omit [FloatOps F] in
theorem rest_bar : bigSep ((sched m).duties (barCell c) 0 \ ∅) (fun d => (sched m).payload (barCell c) 0 d)
    = bigSep Finset.univ fun t => landing (F := F) t (peer t c) := by
  rw [Finset.sdiff_empty, duties_bar]
  show bigSep Finset.univ (fun d => barPay c d) = _
  refine (bigSep_congr (Ψ := fun a => bigSep (Finset.univ.filter fun t => (tb t).ax = a) fun t => landing (F := F) t (peer t c))
    (fun a _ => bigSep_congr fun t ht => by rw [peer, (Finset.mem_filter.mp ht).2])).trans ?_
  rw [axes_split (F := F) (fun t => landing t (peer t c)) Finset.univ]
  simp
omit [FloatOps F] in
theorem rest_cell : bigSep ((sched m).duties (cell c (some x)) 0 \ ∅) (fun d => (sched m).payload (cell c (some x)) 0 d) = payOf m x c := by
  rw [Finset.sdiff_empty, duties_cell, bigSep_singleton, payload_cell]

end Sched

/-! ## Debts and levels -/

/-- What a device owes once its first `i` copies are under way: the arrivals of the others. -/
def Ow (c : Dev nD) (i : ℕ) : CellTallies nD τ sig Unit := ∑ t ∈ Finset.univ.filter (fun t : Fin 21 => i ≤ t.val), tallyAt (recvCell t (peer t c)) () (amt t)
/-- What it owes at launch: those, and one unit to each neighbour's barrier. -/
def O₀ (c : Dev nD) : CellTallies nD τ sig Unit :=
  Ow c 0 + tallyAt (barCell (zp c)) () 1 + tallyAt (barCell (yp c)) () 1 + tallyAt (barCell (xp c)) () 1

theorem Ow_step (c : Dev nD) (t : Fin 21) : Ow c t.val = Ow c (t.val + 1) + tallyAt (recvCell t (peer t c)) () (amt t) := by
  unfold Ow
  have h : Finset.univ.filter (fun u : Fin 21 => t.val ≤ u.val) = insert t (Finset.univ.filter fun u : Fin 21 => t.val + 1 ≤ u.val) := by
    ext u
    simp only [Finset.mem_filter, Finset.mem_univ, true_and, Finset.mem_insert]
    constructor
    · intro h; rcases Nat.eq_or_lt_of_le h with h | h
      · exact Or.inl (Fin.ext h.symm)
      · exact Or.inr h
    · rintro (rfl | h)
      · exact le_rfl
      · omega
  rw [h, Finset.sum_insert (by simp), add_comm]

theorem Ow_end (c : Dev nD) : Ow c 21 = 0 := by
  unfold Ow
  rw [Finset.filter_false_of_mem (fun t _ => by have := t.isLt; omega), Finset.sum_empty]

def L (g : GSem nD τ sig) : Finset Unit := if g.1.2 = .tc then {()} else ∅
/-- The level of a semaphore: waits go on below everything owed. -/
def lvS : SemLoc sig → ℕ
  | .reg _ => 1
  | .dma k => Function.extend semOf (fun x => if x.1 then (tb x.2).lv else 0) (fun _ => 0) k
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_recv (t : Fin 21) : lvS (csem (some (true, t))) = (tb t).lv :=
  semOf_inj.extend_apply (fun x : Bool × Fin 21 => if x.1 then (tb x.2).lv else 0) (fun _ => 0) (true, t)
theorem lvS_send (t : Fin 21) : lvS (csem (some (false, t))) = 0 :=
  semOf_inj.extend_apply (fun x : Bool × Fin 21 => if x.1 then (tb x.2).lv else 0) (fun _ => 0) (false, t)
theorem lvS_loc (l : Fin 19) : lvS (.dma (lb l).s) = 0 :=
  Function.extend_apply' (f := semOf) (fun x : Bool × Fin 21 => if x.1 then (tb x.2).lv else 0) (fun _ => 0) _ fun ⟨x, h⟩ => semOf_ne_local x l h

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem sum_pos_mem {I : Type} [DecidableEq I] (s : Finset I) (f : I → CellTallies nD τ sig Unit) {g : GSem nD τ sig} {u : Unit} (h : 0 < (∑ t ∈ s, f t) g u) :
    ∃ t ∈ s, 0 < f t g u := by
  induction s using Finset.induction_on with
  | empty => rw [Finset.sum_empty] at h; exact absurd h (Nat.lt_irrefl 0)
  | insert a s ha ih =>
    rw [Finset.sum_insert ha, Pi.add_apply, Finsupp.add_apply] at h
    by_cases h0 : 0 < f a g u
    · exact ⟨a, Finset.mem_insert_self _ _, h0⟩
    · obtain ⟨t, ht, h1⟩ := ih (by omega)
      exact ⟨t, Finset.mem_insert_of_mem ht, h1⟩

theorem Ow_pos {c : Dev nD} {i : ℕ} {g : GSem nD τ sig} {u : Unit} (h : 0 < Ow c i g u) : ∃ t : Fin 21, i ≤ t.val ∧ g = recvCell t (peer t c) := by
  obtain ⟨t, ht, h1⟩ := sum_pos_mem _ _ h
  exact ⟨t, (Finset.mem_filter.mp ht).2, tally_pos h1⟩

theorem O₀_pos {c : Dev nD} {g : GSem nD τ sig} {u : Unit} (h : 0 < O₀ c g u) : (∃ t : Fin 21, g = recvCell t (peer t c)) ∨ ∃ a : Fin 3, g = barCell (flip a c) := by
  unfold O₀ at h
  rw [Pi.add_apply, Finsupp.add_apply, Pi.add_apply, Finsupp.add_apply, Pi.add_apply, Finsupp.add_apply] at h
  by_cases h1 : 0 < (tallyAt (barCell (xp c)) () 1 : CellTallies nD τ sig Unit) g u
  · exact Or.inr ⟨0, tally_pos h1⟩
  by_cases h2 : 0 < (tallyAt (barCell (yp c)) () 1 : CellTallies nD τ sig Unit) g u
  · exact Or.inr ⟨1, tally_pos h2⟩
  by_cases h3 : 0 < (tallyAt (barCell (zp c)) () 1 : CellTallies nD τ sig Unit) g u
  · exact Or.inr ⟨2, tally_pos h3⟩
  obtain ⟨t, _, h4⟩ := Ow_pos (c := c) (i := 0) (g := g) (u := u) (by omega)
  exact Or.inl ⟨t, h4⟩

omit [FloatOps F] in
/-- A wait below every arrival still owed. -/
theorem mayWait_Ow (c : Dev nD) (sm : SemLoc sig) (i : ℕ) (h : ∀ t : Fin 21, i ≤ t.val → lvS sm < (tb t).lv) :
    (levAts L lv : sProp 𝕄) ⊢ MayWait (c : Thread nD τ) sm () (Ow c i) :=
  MayOwe.of_cut (L := L) (lev := lv) (lvS sm) (fun p hp => by rw [Finset.mem_singleton.mp hp, L_tc]; exact Finset.mem_singleton_self _)
    (fun g u hg => by obtain ⟨t, _, rfl⟩ := Ow_pos hg; exact Finset.mem_singleton_self _)
    (fun p hp => by rw [Finset.mem_singleton.mp hp]; exact le_rfl)
    (fun g u hg => by obtain ⟨t, ht, rfl⟩ := Ow_pos hg; show _ < lvS _; rw [lvS_recv]; exact h t ht)

end Cert.Exchange

end
-- ==== Proof.Engine.lean ====
/-
# One step of a device's run

A device's state is how many of its copies to neighbours are under way, which of their two completions it has waited for,
and which of its own local copies it has started and waited for. Each of the program's operations moves that state by one
step: a copy to a neighbour, a wait for an arrival, a wait for a departure, a local copy, a wait for a local copy. Each is
proved once here, for every copy of the tables.
-/
module

public import proofs.«01_k».proof.Proof.Schedule

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The state -/

/-- The cells' invariants, under the names the launch gives them, and that every cell's round is open. -/
def records (K : Dev nD × Option (Bool × Fin 21) → ℕ) : sProp 𝕄 :=
  iprop((bigSep Finset.univ fun ck : Dev nD × Option (Bool × Fin 21) => cellInv ER (sched m) (K ck) (cell ck.1 ck.2))
    ∗ bigSep Finset.univ fun ck : Dev nD × Option (Bool × Fin 21) => reached ER (cell ck.1 ck.2) 0)

instance records_persistent (K : Dev nD × Option (Bool × Fin 21) → ℕ) : BI.Persistent (records m K) := by unfold records; infer_instance

omit [FloatOps F] in
theorem inv_at (K : Dev nD × Option (Bool × Fin 21) → ℕ) (c : Dev nD) (k : Option (Bool × Fin 21)) :
    records m K ⊢ cellInv ER (sched m) (K (c, k)) (cell c k) := by
  have h : (bigSep Finset.univ fun ck : Dev nD × Option (Bool × Fin 21) => (cellInv ER (sched m) (K ck) (cell ck.1 ck.2) : sProp 𝕄))
      ⊢ cellInv ER (sched m) (K (c, k)) (cell c k) := bigSep_elim (Finset.mem_univ (c, k))
  unfold records
  iintro ⟨#HI, -⟩
  iapply h
  iexact HI
omit [FloatOps F] in
theorem reached_at (K : Dev nD × Option (Bool × Fin 21) → ℕ) (c : Dev nD) (k : Option (Bool × Fin 21)) :
    records m K ⊢ reached ER (cell c k) 0 := by
  have h : (bigSep Finset.univ fun ck : Dev nD × Option (Bool × Fin 21) => (reached ER (cell ck.1 ck.2) 0 : sProp 𝕄))
      ⊢ reached ER (cell c k) 0 := bigSep_elim (Finset.mem_univ (c, k))
  unfold records
  iintro ⟨-, #HR⟩
  iapply h
  iexact HR

/-- What a copy not yet started needs: its place, the right to complete both its semaphores, the region it writes. -/
def toSend (c : Dev nD) (t : Fin 21) : sProp 𝕄 :=
  iprop(atPos ER (sendCell t c) 0 ∅ 0 ∗ dutyTok ER (sendCell t c) 0 0 ∗ dutyTok ER (recvCell t (peer t c)) 0 0 ∗ landing t (peer t c))
/-- What a copy under way leaves: the right to wait for its departure. -/
def sending (c : Dev nD) (t : Fin 21) : sProp 𝕄 := iprop(cred (tallyAt (sendCell t c) () (amt t)) ∗ atPos ER (sendCell t c) 0 ∅ 0)
/-- The right to wait for an arrival. -/
def coming (c : Dev nD) (t : Fin 21) : sProp 𝕄 := iprop(cred (tallyAt (recvCell t c) () (amt t)) ∗ atPos ER (recvCell t c) 0 ∅ 0)
/-- A local copy not yet started; one under way. -/
def toCopy (c : Dev nD) (l : Fin 19) : sProp 𝕄 := iprop(semVal (locCell l c) 0 ∗ locFree l c)
def copying (c : Dev nD) (l : Fin 19) : sProp 𝕄 :=
  Transfers.Flight countersEmb (c : Thread nD τ) (.dma (lb l).s) () (lamt l) (locPay m l c)

def sendSt (c : Dev nD) (i : ℕ) (A : List (Fin 21)) (t : Fin 21) : sProp 𝕄 :=
  if t.val < i then (if t ∈ A then semVal (sendCell t c) 0 else sending c t) else toSend c t
def recvSt (c : Dev nD) (R : List (Fin 21)) (t : Fin 21) : sProp 𝕄 := if t ∈ R then semVal (recvCell t c) 0 else coming c t
def locSt (c : Dev nD) (S D : List (Fin 19)) (l : Fin 19) : sProp 𝕄 :=
  if l ∈ D then semVal (locCell l c) 0 else if l ∈ S then copying m c l else toCopy c l

/-- Device `c`'s state: its first `i` copies to neighbours are under way; it has waited for the departures `A` and the
    arrivals `R`; it has started the local copies `S` and waited for `D`. -/
def eng (K : Dev nD × Option (Bool × Fin 21) → ℕ) (c : Dev nD) (i : ℕ) (A R : List (Fin 21)) (S D : List (Fin 19)) : sProp 𝕄 :=
  iprop(records m K ∗ levAts L lv ∗ (∃ W, owes (c : Thread nD τ) (Ow c i) W)
    ∗ bigSep Finset.univ (sendSt c i A) ∗ bigSep Finset.univ (recvSt c R) ∗ bigSep Finset.univ (locSt m c S D))

/-- One entry of a family of resources, taken out and put back changed. -/
theorem swap_at {I : Type} [Fintype I] [DecidableEq I] (Φ Ψ : I → sProp 𝕄) (i : I) (h : ∀ j, j ≠ i → Φ j = Ψ j) {P P' : sProp 𝕄}
    (e : Φ i = P) (e' : Ψ i = P') : bigSep Finset.univ Φ ⊢ iprop(P ∗ (P' -∗ bigSep Finset.univ Ψ)) := by
  subst e e'
  rw [bigSep_univ_at Φ i, bigSep_univ_at Ψ i, bigSep_congr (s := Finset.univ.erase i) (fun j hj => h j (Finset.ne_of_mem_erase hj))]
  iintro ⟨HA, HB⟩
  isplitl [HA]; · iexact HA
  iintro HC
  isplitl [HC]; · iexact HC
  iexact HB

variable (K : Dev nD × Option (Bool × Fin 21) → ℕ) {α : Type}

/-- A device's weakest precondition. -/
abbrev run (c : Dev nD) {β : Type} (p : Prog (TpuEff nD τ sig (Elt F) Λ₀ .tc) β) (Q : β → sProp 𝕄) : sProp 𝕄 :=
  wp frame (wpE (defs₀ (F := F)) 𝒱₀ (c : Thread nD τ) none) Set.univ p Q

/-! ## The steps -/

/-- A copy to a neighbour. -/
theorem eng_send (t : Fin 21) (c c' : Dev nD) (hc : c' = peer t c) (i i' : ℕ) (hi : i = t.val) (hi' : i' = i + 1)
    {A R : List (Fin 21)} {S D : List (Fin 19)} (hA : t ∉ A)
    {sp sp' : Space} {sh : Shape} {src : Memref sig .tc sp sh .f32} {dst : Memref sig .tc sp' sh .f32} {sS sR : SemLoc sig}
    (hS : sS = csem (some (false, t))) (hR : sR = csem (some (true, t)))
    {hsc : (dst : Memref sig (Dev.tc c' : Thread nD τ).2.kind sp' sh .f32).view.ref.isScScratch = false}
    {hsrc : src.view.WordExact} {hdst : dst.view.WordExact} {hsem : DmaTarget.Typed sp sR (.remote (Dev.tc c' : Thread nD τ) dst sS hsc)}
    {k : PUnit → Prog (TpuEff nD τ sig (Elt F) Λ₀ .tc) α} {Q : α → sProp 𝕄}
    (fs : Buf (Elt F) (src.view.loc (c : Thread nD τ))) (hN : dst.view.amount sR = amt t)
    (h1 : sendPay m t c = (src.view.loc (c : Thread nD τ) ↦[src.view.set]{(tb t).sh} fs))
    (h2 : ∀ fd, ∃ fd' : Buf (Elt F) (dst.view.loc (c' : Thread nD τ)),
      pts (F := F) c' (tb t).dB (dRow t c') (tb t).n 0 fullShare fd = (dst.view.loc (c' : Thread nD τ) ↦[dst.view.set]{fullShare} fd')
      ∧ (dst.view.loc (c' : Thread nD τ) ↦[dst.view.set]{fullShare} dst.view.write (Elt F) fd' (src.view.read (Elt F) fs) Finset.univ) = recvPay m t c') :
    iprop(eng m K c i A R S D ∗ sendPay m t c)
      ⊢ iprop((eng m K c i' A R S D -∗ run c (k ⟨⟩) Q)
          -∗ run c (.op (.enqueueDma src (.remote (Dev.tc c' : Thread nD τ) dst sS hsc) sR hsrc hdst hsem) k) Q) := by
  subst hc hi hi' hS hR
  unfold eng
  iintro ⟨⟨#HR, #HL, ⟨%W, HO⟩, Hs, Hr, Hl⟩, Hsrc⟩ Hk
  ihave Hs' := (swap_at (sendSt c t.val A) (sendSt c (t.val + 1) A) t (fun u hu => by
    have : u.val ≠ t.val := fun h => hu (Fin.ext h)
    have e : (u.val < t.val + 1) = (u.val < t.val) := propext ⟨fun h => by omega, fun h => by omega⟩
    unfold sendSt; simp only [e])
    (show sendSt (F := F) c t.val A t = iprop(atPos ER (sendCell t c) 0 ∅ 0 ∗ dutyTok ER (sendCell t c) 0 0 ∗ dutyTok ER (recvCell t (peer t c)) 0 0
      ∗ ∃ f, pts (F := F) (peer t c) (tb t).dB (dRow t (peer t c)) (tb t).n 0 fullShare f) from if_neg (lt_irrefl _))
    (show sendSt (F := F) c (t.val + 1) A t = iprop(cred (tallyAt (sendCell t c) () (amt t)) ∗ atPos ER (sendCell t c) 0 ∅ 0) from
      (if_pos (Nat.lt_succ_self _)).trans (if_neg hA))) $$ Hs
  icases Hs' with ⟨Ht, Hback⟩
  icases Ht with ⟨Hat, Hd1, Hd2, ⟨%fd, Hland⟩⟩
  obtain ⟨fd', e1, e2⟩ := h2 fd
  ihave Hland' := (Entails.of_eq e1) $$ Hland
  ihave Hsrc' := (Entails.of_eq h1) $$ Hsrc
  iapply (Rounds.wp_send_pointsTo 𝒱₀ ER (sched m) (c : Thread nD τ) none (κ₁ := K (c, some (false, t))) (κ₂ := K (peer t c, some (true, t)))
    (r₁ := 0) (r₂ := 0) (d₁ := 0) (d₂ := 0) (fd := fd')
    (by rw [show ((c : Thread nD τ), csem (some (false, t))) = cell c (some (false, t)) from rfl, duties_cell]; exact Finset.mem_singleton_self _)
    (by rw [show ((peer t c : Thread nD τ), csem (some (true, t))) = cell (peer t c) (some (true, t)) from rfl, duties_cell]; exact Finset.mem_singleton_self _)
    () () (amt t) hN (amount_cell m c (false, t) 0) (amount_cell m (peer t c) (true, t) 0) (Ow c (t.val + 1)) (Ow_step c t) (W := W)
    (by rw [← h1]; exact Entails.of_eq ((payload_cell m c (false, t) 0).trans (if_neg Bool.false_ne_true)).symm)
    (by rw [e2]; exact Entails.of_eq ((payload_cell m (peer t c) (true, t) 0).trans (if_pos rfl)).symm)) $$ [Hsrc' Hland' HO Hd1 Hd2]
  · isplitr; · iapply (inv_at m K c (some (false, t))); iexact HR
    isplitr; · iapply (inv_at m K (peer t c) (some (true, t))); iexact HR
    isplitl [Hsrc']; · iexact Hsrc'
    isplitl [Hland']; · iexact Hland'
    isplitl [HO]; · iexact HO
    isplitl [Hd1]; · iexact Hd1
    isplitr; · iapply (reached_at m K c (some (false, t))); iexact HR
    isplitl [Hd2]; · iexact Hd2
    iapply (reached_at m K (peer t c) (some (true, t))); iexact HR
  iintro ⟨Hcr, HO⟩
  iapply Hk
  isplitr; · iexact HR
  isplitr; · iexact HL
  isplitl [HO]; · iexists W; iexact HO
  isplitl [Hback Hcr Hat]
  · iapply Hback
    isplitl [Hcr]; · iexact Hcr
    iexact Hat
  isplitl [Hr]; · iexact Hr
  iexact Hl

/-- A wait for one of the copies' semaphores: what the cell hands over, and its counter at zero. -/
theorem wait_cell (x : Bool × Fin 21) (c : Dev nD) (i : ℕ) {sp : Space} {sp' : Space} {s s' : Shape} {e e' : EltTy} {sem : DmaSem sig}
    (hs : sem = semOf x) (hl : ∀ u : Fin 21, i ≤ u.val → lvS (csem (some x)) < (tb u).lv)
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄} (hN : dstw.view.dmaCredit = amt x.2) (W : Waits sig Unit) :
    iprop(records m K ∗ levAts L lv ∗ owes (c : Thread nD τ) (Ow c i) W
        ∗ cred (tallyAt (cell c (some x)) () (amt x.2)) ∗ atPos ER (cell c (some x)) 0 ∅ 0)
      ⊢ iprop((((∃ W, owes (c : Thread nD τ) (Ow c i) W) ∗ semVal (cell c (some x)) 0 ∗ payOf m x c) -∗ run c (k ⟨⟩) Q)
          -∗ run c (.op (.waitDma2 sem srcw dstw hsrc hdst) k) Q) := by
  subst hs
  iintro ⟨#HR, #HL, HO, Hcr, Hat⟩ Hk
  iapply (Rounds.wp_wait_rest_token 𝒱₀ ER (sched m) (c : Thread nD τ) none (κ := K (c, some x)) (sm := csem (some x)) (k' := amt x.2)
    (fun K' => by rw [← hN]; rfl) (Set.mem_univ _) () (O := Ow c i) (W := W) (R := 0) (m := 0) (T := ∅)
    (by rw [Nat.zero_add]; exact (expect_cell m c x).symm)) $$ [Hcr HO Hat]
  · isplitr; · iapply (inv_at m K c (some x)); iexact HR
    isplitl [Hcr]; · iexact Hcr
    isplitl [HO]; · iexact HO
    isplitr; · iapply (mayWait_Ow c (csem (some x)) i hl); iexact HL
    iexact Hat
  iintro ⟨HO, Hat, -, Hpay⟩
  ihave Hp := (Entails.of_eq (rest_cell m c x)) $$ Hpay
  imod (Rounds.cell_close ER (sched m) (Set.mem_univ (K (c, some x))) (fun h => h) (R := 0 + 1) (duties_later m (cell c (some x)))) $$ [Hat] with Hz
  · isplitr; · iapply (inv_at m K c (some x)); iexact HR
    iexact Hat
  iapply Hk
  isplitl [HO]; · iexists _; iexact HO
  isplitl [Hz]; · iexact Hz
  iexact Hp

/-- A wait for an arrival. -/
theorem eng_recv (t : Fin 21) (c : Dev nD) (i : ℕ) {A R : List (Fin 21)} {S D : List (Fin 19)} (ht : t ∉ R)
    (hl : ∀ u : Fin 21, i ≤ u.val → (tb t).lv < (tb u).lv)
    {sp sp' : Space} {s s' : Shape} {e e' : EltTy} {sem : DmaSem sig} (hs : sem = semOf (true, t))
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄} (hN : dstw.view.dmaCredit = amt t) :
    eng m K c i A R S D
      ⊢ iprop(((eng m K c i A (t :: R) S D ∗ recvPay m t c) -∗ run c (k ⟨⟩) Q)
          -∗ run c (.op (.waitDma2 sem srcw dstw hsrc hdst) k) Q) := by
  unfold eng
  iintro ⟨#HR, #HL, ⟨%W, HO⟩, Hs, Hr, Hl⟩ Hk
  ihave Hr' := (swap_at (recvSt c R) (recvSt c (t :: R)) t (fun u hu => by
    unfold recvSt; simp only [List.mem_cons, hu, false_or])
    (show recvSt (F := F) c R t = iprop(cred (tallyAt (recvCell t c) () (amt t)) ∗ atPos ER (recvCell t c) 0 ∅ 0) from if_neg ht)
    (show recvSt (F := F) c (t :: R) t = semVal (recvCell t c) 0 from if_pos (by simp))) $$ Hr
  icases Hr' with ⟨Ht, Hback⟩
  icases Ht with ⟨Hcr, Hat⟩
  iapply (wait_cell m K (true, t) c i hs (fun u hu => by rw [lvS_recv]; exact hl u hu) hN W) $$ [HO Hcr Hat]
  · isplitr; · iexact HR
    isplitr; · iexact HL
    isplitl [HO]; · iexact HO
    isplitl [Hcr]; · iexact Hcr
    iexact Hat
  iintro ⟨HO, Hz, Hp⟩
  iapply Hk
  isplitl [HO Hs Hl Hz Hback]
  · isplitr; · iexact HR
    isplitr; · iexact HL
    isplitl [HO]; · iexact HO
    isplitl [Hs]; · iexact Hs
    isplitl [Hback Hz]; · iapply Hback; iexact Hz
    iexact Hl
  · iapply (Entails.of_eq (show payOf m (true, t) c = recvPay m t c from if_pos rfl)); iexact Hp

/-- A wait for a departure. -/
theorem eng_sent (t : Fin 21) (c : Dev nD) (i : ℕ) {A R : List (Fin 21)} {S D : List (Fin 19)} (ht : t ∉ A) (hi : t.val < i)
    (hl : ∀ u : Fin 21, i ≤ u.val → 0 < (tb u).lv)
    {sp sp' : Space} {s s' : Shape} {e e' : EltTy} {sem : DmaSem sig} (hs : sem = semOf (false, t))
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄} (hN : dstw.view.dmaCredit = amt t) :
    eng m K c i A R S D
      ⊢ iprop(((eng m K c i (t :: A) R S D ∗ sendPay m t c) -∗ run c (k ⟨⟩) Q)
          -∗ run c (.op (.waitDma2 sem srcw dstw hsrc hdst) k) Q) := by
  unfold eng
  iintro ⟨#HR, #HL, ⟨%W, HO⟩, Hs, Hr, Hl⟩ Hk
  ihave Hs' := (swap_at (sendSt c i A) (sendSt c i (t :: A)) t (fun u hu => by
    unfold sendSt; simp only [List.mem_cons, hu, false_or])
    (show sendSt (F := F) c i A t = iprop(cred (tallyAt (sendCell t c) () (amt t)) ∗ atPos ER (sendCell t c) 0 ∅ 0) from (if_pos hi).trans (if_neg ht))
    (show sendSt (F := F) c i (t :: A) t = semVal (sendCell t c) 0 from (if_pos hi).trans (if_pos (by simp)))) $$ Hs
  icases Hs' with ⟨Ht, Hback⟩
  icases Ht with ⟨Hcr, Hat⟩
  iapply (wait_cell m K (false, t) c i hs (fun u hu => by rw [lvS_send]; exact hl u hu) hN W) $$ [HO Hcr Hat]
  · isplitr; · iexact HR
    isplitr; · iexact HL
    isplitl [HO]; · iexact HO
    isplitl [Hcr]; · iexact Hcr
    iexact Hat
  iintro ⟨HO, Hz, Hp⟩
  iapply Hk
  isplitl [HO Hr Hl Hz Hback]
  · isplitr; · iexact HR
    isplitr; · iexact HL
    isplitl [HO]; · iexact HO
    isplitl [Hback Hz]; · iapply Hback; iexact Hz
    isplitl [Hr]; · iexact Hr
    iexact Hl
  · iapply (Entails.of_eq (show payOf m (false, t) c = sendPay m t c from if_neg Bool.false_ne_true)); iexact Hp

/-- A copy within the device. -/
theorem eng_copy (l : Fin 19) (c : Dev nD) (i : ℕ) {A R : List (Fin 21)} {S D : List (Fin 19)} (hS : l ∉ S) (hD : l ∉ D)
    {sp sp' : Space} {sh : Shape} {src : Memref sig .tc sp sh .f32} {dst : Memref sig .tc sp' sh .f32} {sm : SemLoc sig}
    (hs : sm = .dma (lb l).s)
    {hsrc : src.view.WordExact} {hdst : dst.view.WordExact} {hsem : DmaTarget.Typed (nD := nD) sp sm (.here dst : DmaTarget nD τ sig .tc sp' sh .f32)}
    {k : PUnit → Prog (TpuEff nD τ sig (Elt F) Λ₀ .tc) α} {Q : α → sProp 𝕄}
    (fs : Buf (Elt F) (src.view.loc (c : Thread nD τ))) (hN : dst.view.amount sm = lamt l)
    (h1 : locSrc m l c = (src.view.loc (c : Thread nD τ) ↦[src.view.set]{(lb l).sh} fs))
    (h2 : ∀ fd, ∃ fd' : Buf (Elt F) (dst.view.loc (c : Thread nD τ)),
      pts (F := F) c (lb l).dB ((lb l).dlo c) (lb l).n 0 fullShare fd = (dst.view.loc (c : Thread nD τ) ↦[dst.view.set]{fullShare} fd')
      ∧ (dst.view.loc (c : Thread nD τ) ↦[dst.view.set]{fullShare} dst.view.write (Elt F) fd' (src.view.read (Elt F) fs) Finset.univ) = locDst m l c) :
    iprop(eng m K c i A R S D ∗ locSrc m l c)
      ⊢ iprop((eng m K c i A R (l :: S) D -∗ run c (k ⟨⟩) Q)
          -∗ run c (.op (.enqueueDma src (.here dst) sm hsrc hdst hsem) k) Q) := by
  subst hs
  unfold eng
  iintro ⟨⟨#HR, #HL, HO, Hs, Hr, Hl⟩, Hsrc⟩ Hk
  ihave Hl' := (swap_at (locSt m c S D) (locSt m c (l :: S) D) l (fun u hu => by
    unfold locSt; simp only [List.mem_cons, hu, false_or])
    (show locSt m c S D l = iprop(semVal (locCell l c) 0 ∗ ∃ f, pts (F := F) c (lb l).dB ((lb l).dlo c) (lb l).n 0 fullShare f) from
      (if_neg hD).trans (if_neg hS))
    (show locSt m c (l :: S) D l = copying m c l from (if_neg hD).trans (if_pos (by simp)))) $$ Hl
  icases Hl' with ⟨Ht, Hback⟩
  icases Ht with ⟨Hz, ⟨%fd, Hdst⟩⟩
  obtain ⟨fd', e1, e2⟩ := h2 fd
  ihave Hdst' := (Entails.of_eq e1) $$ Hdst
  ihave Hsrc' := (Entails.of_eq h1) $$ Hsrc
  iapply (Transfers.wp_dmaLocal countersEmb 𝒱₀ (c : Thread nD τ) none () (lamt l) hN (lamt_pos l) (Finset.Subset.refl _)) $$ [Hsrc' Hdst' Hz]
  · isplitl [Hsrc']; · iexact Hsrc'
    isplitl [Hdst']; · iexact Hdst'
    iexact Hz
  iintro Hf
  iapply Hk
  isplitr; · iexact HR
  isplitr; · iexact HL
  isplitl [HO]; · iexact HO
  isplitl [Hs]; · iexact Hs
  isplitl [Hr]; · iexact Hr
  iapply Hback
  unfold copying
  iapply (Transfers.Flight_mono countersEmb (c : Thread nD τ) (Entails.of_eq (show _ = locPay m l c from by
    unfold locPay; rw [← e2, h1])))
  iexact Hf

/-- A wait for a copy within the device. -/
theorem eng_copied (l : Fin 19) (c : Dev nD) (i : ℕ) {A R : List (Fin 21)} {S D : List (Fin 19)} (hS : l ∈ S) (hD : l ∉ D)
    (hl : ∀ u : Fin 21, i ≤ u.val → 0 < (tb u).lv)
    {sp sp' : Space} {s s' : Shape} {e e' : EltTy} {sem : DmaSem sig} (hs : sem = (lb l).s)
    {srcw : Memref sig .tc sp' s' e'} {dstw : Memref sig .tc sp s e} {hsrc : srcw.view.WordExact} {hdst : dstw.view.WordExact}
    {k : PUnit → Prog (TpuEff nD τ sig (Elt F) Λ₀ .tc) α} {Q : α → sProp 𝕄} (hN : dstw.view.dmaCredit = lamt l) :
    eng m K c i A R S D
      ⊢ iprop(((eng m K c i A R S (l :: D) ∗ locDst m l c ∗ locSrc m l c) -∗ run c (k ⟨⟩) Q)
          -∗ run c (.op (.waitDma2 sem srcw dstw hsrc hdst) k) Q) := by
  subst hs
  unfold eng
  iintro ⟨#HR, #HL, ⟨%W, HO⟩, Hs, Hr, Hl⟩ Hk
  ihave Hl' := (swap_at (locSt m c S D) (locSt m c S (l :: D)) l (fun u hu => by
    unfold locSt; simp only [List.mem_cons, hu, false_or])
    (show locSt m c S D l = Transfers.Flight countersEmb (c : Thread nD τ) (.dma (lb l).s) () (lamt l) (locPay m l c) from
      (if_neg hD).trans (if_pos hS))
    (show locSt m c S (l :: D) l = semVal (locCell l c) 0 from if_pos (by simp))) $$ Hl
  icases Hl' with ⟨Ht, Hback⟩
  iapply (Transfers.wp_waitLocalO countersEmb 𝒱₀ (c : Thread nD τ) none () hN (O := Ow c i) (W := W)) $$ [Ht HO]
  · isplitl [Ht]; · iexact Ht
    isplitl [HO]; · iexact HO
    iapply (mayWait_Ow c (.dma (lb l).s) i (fun u hu => by rw [lvS_loc]; exact hl u hu)); iexact HL
  unfold locPay
  iintro ⟨⟨Hd, Hsrc⟩, Hz, HO⟩
  iapply Hk
  isplitl [HO Hs Hr Hz Hback]
  · isplitr; · iexact HR
    isplitr; · iexact HL
    isplitl [HO]; · iexists _; iexact HO
    isplitl [Hs]; · iexact Hs
    isplitl [Hr]; · iexact Hr
    iapply Hback; iexact Hz
  isplitl [Hd]; · iexact Hd
  iexact Hsrc

end Cert.Exchange

end
-- ==== Proof.Steps.lean ====
/-
# The program's operations, class by class

The memory operations of the program as instances of the steps of `Engine`: the copies of each class share one statement.
-/
module

public import proofs.«01_k».proof.Proof.Values
public import proofs.«01_k».proof.Proof.Engine

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Regions as the program's views name them -/

/-- The `n` rows from `lo` at the 1024 columns from `co`, as a set of indices. -/
theorem unit_set {d : Fin 2 → ℕ} {off : Fin 2 → ℕ} {lo n co : ℕ} {inb} (h : off = ![lo, co]) :
    (Rect.unit (s := (⟨2, d⟩ : Shape)) off (⟨2, ![n, 1024]⟩ : Shape).size inb).set
      = Finset.univ.filter fun i : (⟨2, d⟩ : Shape).Idx => (lo ≤ (i 0).val ∧ (i 0).val < lo + n) ∧ (co ≤ (i 1).val ∧ (i 1).val < co + 1024) := by
  subst h
  ext i
  rw [Rect.mem_set_unit, Finset.mem_filter]
  constructor
  · intro h; exact ⟨Finset.mem_univ _, h 0, h 1⟩
  · intro h a
    match a with
    | ⟨0, _⟩ => exact h.2.1
    | ⟨1, _⟩ => exact h.2.2

/-- A region of known contents, as a view of the buffer names it. -/
theorem src_eq (c : Dev nD) (b : Bf) (r : Rect (ref b).ty.shape) {lo n co : ℕ} {s : PosShare TreeShare} (h : r.set = reg b lo n co) :
    have' m c b lo n co s
      = (((View.whole (ref b)).slice r).loc (c : Thread nD τ) ↦[((View.whole (ref b)).slice r).set]{s} (val m c b : Buf (Elt F) ((c : Thread nD τ).loc (ref b)))) := by
  rw [View.set_slice_whole, h]; rfl

/-- A region written through a view of the buffer holds what it is to hold, if the words written do. -/
theorem dst_eq (c : Dev nD) (b : Bf) (r : Rect (ref b).ty.shape) {lo n : ℕ} (h : r.set = reg b lo n 0)
    (w : r.shape.Idx → Elt F (ref b).ty.elt) (hw : ∀ x, val m c b (r.emb x) = w x) (fd : (ref b).ty.Contents (Elt F)) :
    ∃ fd' : Buf (Elt F) (((View.whole (ref b)).slice r).loc (c : Thread nD τ)),
      pts (F := F) c b lo n 0 fullShare fd = (((View.whole (ref b)).slice r).loc (c : Thread nD τ) ↦[((View.whole (ref b)).slice r).set]{fullShare} fd')
      ∧ (((View.whole (ref b)).slice r).loc (c : Thread nD τ) ↦[((View.whole (ref b)).slice r).set]{fullShare}
          ((View.whole (ref b)).slice r).write (Elt F) fd' w Finset.univ) = have' m c b lo n 0 fullShare := by
  refine ⟨fd, ?_, ?_⟩
  · rw [View.set_slice_whole, h]; rfl
  · rw [src_eq m c b r h]
    refine pointsTo_congr fun i hi => ?_
    obtain ⟨x, -, rfl⟩ := Finset.mem_map.mp hi
    refine (View.write_emb_of_mem (v := (View.whole (ref b)).slice r) _ _ (Finset.mem_univ x)).trans ?_
    exact (hw x).symm

/-- The whole of a buffer, as a region. -/
theorem reg_kb : reg .kb 0 4096 0 = Finset.univ := by
  ext i
  have h0 : (i 0).val < 4096 := (i 0).isLt
  have h1 : (i 1).val < 1024 := (i 1).isLt
  simp only [reg, Finset.mem_filter, Finset.mem_univ, true_and, iff_true]
  show (0 ≤ (i 0).val ∧ (i 0).val < 0 + 4096) ∧ (0 ≤ (i 1).val ∧ (i 1).val < 0 + 1024)
  omega

/-- The views the program copies between: `n` rows of a buffer. -/
abbrev vX (lo n : ℕ) (inb : ∀ a, (![lo, 0] : Fin 2 → ℕ) a + (⟨2, ![n, 1024]⟩ : Shape).size a ≤ S1024x1024.size a) : Memref sig .tc .vmem ⟨2, ![n, 1024]⟩ .f32 :=
  (Memref.whole cc0_scratch1).slice (Rect.unit (s := S1024x1024) ![lo, 0] (⟨2, ![n, 1024]⟩ : Shape).size inb) (fun _ => rfl)
abbrev vY (lo n : ℕ) (inb : ∀ a, (![lo, 0] : Fin 2 → ℕ) a + (⟨2, ![n, 1024]⟩ : Shape).size a ≤ S1024x1024.size a) : Memref sig .tc .vmem ⟨2, ![n, 1024]⟩ .f32 :=
  (Memref.whole cc0_scratch2).slice (Rect.unit (s := S1024x1024) ![lo, 0] (⟨2, ![n, 1024]⟩ : Shape).size inb) (fun _ => rfl)
abbrev vZ (lo n : ℕ) (inb : ∀ a, (![lo, 0] : Fin 2 → ℕ) a + (⟨2, ![n, 1024]⟩ : Shape).size a ≤ S1024x1024.size a) : Memref sig .tc .vmem ⟨2, ![n, 1024]⟩ .f32 :=
  (Memref.whole cc0_scratch3).slice (Rect.unit (s := S1024x1024) ![lo, 0] (⟨2, ![n, 1024]⟩ : Shape).size inb) (fun _ => rfl)
abbrev vS (lo n : ℕ) (inb : ∀ a, (![lo, 0] : Fin 2 → ℕ) a + (⟨2, ![n, 1024]⟩ : Shape).size a ≤ S1368x1024.size a) : Memref sig .tc .vmem ⟨2, ![n, 1024]⟩ .f32 :=
  (Memref.whole cc0_scratch0).slice (Rect.unit (s := S1368x1024) ![lo, 0] (⟨2, ![n, 1024]⟩ : Shape).size inb) (fun _ => rfl)
abbrev vO (off : Fin 2 → ℕ) (n : ℕ) (inb : ∀ a, (off : Fin 2 → ℕ) a + (⟨2, ![n, 1024]⟩ : Shape).size a ≤ S8192x1024.size a) : Memref sig .tc .hbm ⟨2, ![n, 1024]⟩ .f32 :=
  (Memref.whole main_v1).slice (Rect.unit (s := S8192x1024) off (⟨2, ![n, 1024]⟩ : Shape).size inb) (fun _ => rfl)
abbrev vA (off : Fin 2 → ℕ) (n : ℕ) (inb : ∀ a, (off : Fin 2 → ℕ) a + (⟨2, ![n, 1024]⟩ : Shape).size a ≤ S4096x2048.size a) : Memref sig .tc .hbm ⟨2, ![n, 1024]⟩ .f32 :=
  (Memref.whole main_arg0).slice (Rect.unit (s := S4096x2048) off (⟨2, ![n, 1024]⟩ : Shape).size inb) (fun _ => rfl)

variable (K : Dev nD × Option (Bool × Fin 21) → ℕ) {α : Type}

theorem curry {P Q R : sProp 𝕄} (h : iprop(P ∗ Q) ⊢ R) : P ⊢ iprop(Q -∗ R) := by
  iintro HP HQ
  iapply h
  isplitl [HP]; · iexact HP
  iexact HQ

/-! ## Copies to a neighbour -/

section
variable {c c' : Dev nD} {i i' : ℕ} {A R : List (Fin 21)} {S D : List (Fin 19)} {sS sR : SemLoc sig}

/-- A copy of the table, its entry spelt out. -/
theorem send_core (t : Fin 21) (a : Fin 3) (b : Bf) (lo n : ℕ) (s : PosShare TreeShare) (b' : Bf) (dlo : ℕ)
    (ht : tb t = ⟨a, b, lo, n, s, b', dlo, (tb t).ss, (tb t).rs, (tb t).lv⟩) (lo' : ℕ) (hlo : (if b' = .ou then oppRow c' + dlo else dlo) = lo')
    (hc : c' = flip a c) (hi : i = t.val) (hi' : i' = i + 1) (hA : t ∉ A) (hS : sS = csem (some (false, t))) (hR : sR = csem (some (true, t)))
    {sp sp' : Space} {sh : Shape} {src : Memref sig .tc sp sh .f32} {dst : Memref sig .tc sp' sh .f32}
    {hsc : (dst : Memref sig (Dev.tc c' : Thread nD τ).2.kind sp' sh .f32).view.ref.isScScratch = false}
    {hsrc : src.view.WordExact} {hdst : dst.view.WordExact} {hsem : DmaTarget.Typed sp sR (.remote (Dev.tc c' : Thread nD τ) dst sS hsc)}
    (fs : Buf (Elt F) (src.view.loc (c : Thread nD τ))) (hN : dst.view.amount (csem (some (true, t))) = (ref b').dmaCredit ⟨2, ![n, 1024]⟩ .f32)
    (h1 : have' m c b lo n 0 s = (src.view.loc (c : Thread nD τ) ↦[src.view.set]{s} fs))
    (h2 : ∀ fd, ∃ fd' : Buf (Elt F) (dst.view.loc (c' : Thread nD τ)),
      pts (F := F) c' b' lo' n 0 fullShare fd = (dst.view.loc (c' : Thread nD τ) ↦[dst.view.set]{fullShare} fd')
      ∧ (dst.view.loc (c' : Thread nD τ) ↦[dst.view.set]{fullShare} dst.view.write (Elt F) fd' (src.view.read (Elt F) fs) Finset.univ)
        = have' m c' b' lo' n 0 fullShare)
    {k : PUnit → Prog (TpuEff nD τ sig (Elt F) Λ₀ .tc) α} {Q : α → sProp 𝕄} :
    eng m K c i A R S D
      ⊢ iprop(have' m c b lo n 0 s -∗ (eng m K c i' A R S D -∗ run c (k ⟨⟩) Q)
          -∗ run c (.op (.enqueueDma src (.remote (Dev.tc c' : Thread nD τ) dst sS hsc) sR hsrc hdst hsem) k) Q) := by
  have e1 : sendPay m t c = have' m c b lo n 0 s := by unfold sendPay; rw [ht]
  have e2 : recvPay m t c' = have' m c' b' lo' n 0 fullShare := by unfold recvPay dRow; rw [ht, ← hlo]
  rw [← e1]
  refine curry (eng_send m K t c c' (hc.trans (by unfold peer; rw [ht])) i i' hi hi' hA hS hR fs ?_ ?_ ?_)
  · rw [hR, hN]; unfold amt; rw [ht]
  · rw [e1, ht]; exact h1
  · rw [e2]; unfold dRow; rw [ht]; subst hlo; exact h2

/-- Staged rows sent across `x`. -/
theorem send_x (t : Fin 21) (lo n : ℕ) (ht : tb t = ⟨0, .sb, lo, n, fullShare, .xr, lo, (tb t).ss, (tb t).rs, (tb t).lv⟩)
    (hc : c' = xp c) (hi : i = t.val) (hi' : i' = i + 1) (hA : t ∉ A) (hS : sS = csem (some (false, t))) (hR : sR = csem (some (true, t)))
    {inb inb' hsc} {hsrc : (vS lo n inb).view.WordExact} {hdst : (vX lo n inb').view.WordExact} {hsem}
    {k : PUnit → Prog (TpuEff nD τ sig (Elt F) Λ₀ .tc) α} {Q : α → sProp 𝕄} :
    eng m K c i A R S D
      ⊢ iprop(have' m c .sb lo n 0 fullShare -∗ (eng m K c i' A R S D -∗ run c (k ⟨⟩) Q)
          -∗ run c (.op (.enqueueDma (vS lo n inb) (.remote (Dev.tc c' : Thread nD τ) (vX lo n inb') sS hsc) sR hsrc hdst hsem) k) Q) := by
  refine send_core m K t 0 .sb lo n fullShare .xr lo ht lo rfl hc hi hi' hA hS hR (val m c .sb) ?_ ?_ ?_
  · rfl
  · exact src_eq m c .sb _ (unit_set rfl)
  · intro fd
    refine dst_eq m c' .xr _ (unit_set rfl) _ (fun x => ?_) fd
    subst hc; show xN m (xp c) (lo + 1 * (x 0).val) (0 + 1 * (x 1).val) = sN m c (lo + 1 * (x 0).val) (0 + 1 * (x 1).val)
    rw [carry_x]

/-- The last staged rows sent across `x`, straight into the neighbour's result. -/
theorem send_e {off : Fin 2 → ℕ} (hoff : off = ![oppRow c' + 680, 0])
    (hc : c' = xp c) (hi : i = 5) (hi' : i' = i + 1) (hA : 5 ∉ A) (hS : sS = csem (some (false, 5))) (hR : sR = csem (some (true, 5)))
    {inb inb' hsc} {hsrc : (vS 1024 344 inb).view.WordExact} {hdst : (vO off 344 inb').view.WordExact} {hsem}
    {k : PUnit → Prog (TpuEff nD τ sig (Elt F) Λ₀ .tc) α} {Q : α → sProp 𝕄} :
    eng m K c i A R S D
      ⊢ iprop(have' m c .sb 1024 344 0 fullShare -∗ (eng m K c i' A R S D -∗ run c (k ⟨⟩) Q)
          -∗ run c (.op (.enqueueDma (vS 1024 344 inb) (.remote (Dev.tc c' : Thread nD τ) (vO off 344 inb') sS hsc) sR hsrc hdst hsem) k) Q) := by
  refine send_core m K 5 0 .sb 1024 344 fullShare .ou 680 rfl (oppRow c' + 680) rfl hc hi hi' hA hS hR (val m c .sb) ?_ ?_ ?_
  · rfl
  · exact src_eq m c .sb _ (unit_set rfl)
  · intro fd
    refine dst_eq m c' .ou _ (unit_set hoff) _ (fun x => ?_) fd
    subst hc hoff; have hx : (x 0).val < 344 := (x 0).isLt
    show oN m (xp c) (oppRow (xp c) + 680 + 1 * (x 0).val) (0 + 1 * (x 1).val) = sN m c (1024 + 1 * (x 0).val) (0 + 1 * (x 1).val)
    rw [Nat.one_mul, carry_e m c _ _ hx]

/-- A chunk sent across `y`: rows received across `x`, into the same rows at the neighbour. -/
theorem send_y (t : Fin 21) (lo n : ℕ) (ht : tb t = ⟨1, .xr, lo, n, shY, .yr, lo, (tb t).ss, (tb t).rs, (tb t).lv⟩)
    (hc : c' = yp c) (hi : i = t.val) (hi' : i' = i + 1) (hA : t ∉ A) (hS : sS = csem (some (false, t))) (hR : sR = csem (some (true, t)))
    {inb inb' hsc} {hsrc : (vX lo n inb).view.WordExact} {hdst : (vY lo n inb').view.WordExact} {hsem}
    {k : PUnit → Prog (TpuEff nD τ sig (Elt F) Λ₀ .tc) α} {Q : α → sProp 𝕄} :
    eng m K c i A R S D
      ⊢ iprop(have' m c .xr lo n 0 shY -∗ (eng m K c i' A R S D -∗ run c (k ⟨⟩) Q)
          -∗ run c (.op (.enqueueDma (vX lo n inb) (.remote (Dev.tc c' : Thread nD τ) (vY lo n inb') sS hsc) sR hsrc hdst hsem) k) Q) := by
  refine send_core m K t 1 .xr lo n shY .yr lo ht lo rfl hc hi hi' hA hS hR (val m c .xr) ?_ ?_ ?_
  · rfl
  · exact src_eq m c .xr _ (unit_set rfl)
  · intro fd
    refine dst_eq m c' .yr _ (unit_set rfl) _ (fun x => ?_) fd
    subst hc; show yN m (yp c) (lo + 1 * (x 0).val) (0 + 1 * (x 1).val) = xN m c (lo + 1 * (x 0).val) (0 + 1 * (x 1).val)
    rw [carry_y]

/-- The same across `z`. -/
theorem send_z (t : Fin 21) (lo n : ℕ) (ht : tb t = ⟨2, .xr, lo, n, shZ, .zr, lo, (tb t).ss, (tb t).rs, (tb t).lv⟩)
    (hc : c' = zp c) (hi : i = t.val) (hi' : i' = i + 1) (hA : t ∉ A) (hS : sS = csem (some (false, t))) (hR : sR = csem (some (true, t)))
    {inb inb' hsc} {hsrc : (vX lo n inb).view.WordExact} {hdst : (vZ lo n inb').view.WordExact} {hsem}
    {k : PUnit → Prog (TpuEff nD τ sig (Elt F) Λ₀ .tc) α} {Q : α → sProp 𝕄} :
    eng m K c i A R S D
      ⊢ iprop(have' m c .xr lo n 0 shZ -∗ (eng m K c i' A R S D -∗ run c (k ⟨⟩) Q)
          -∗ run c (.op (.enqueueDma (vX lo n inb) (.remote (Dev.tc c' : Thread nD τ) (vZ lo n inb') sS hsc) sR hsrc hdst hsem) k) Q) := by
  refine send_core m K t 2 .xr lo n shZ .zr lo ht lo rfl hc hi hi' hA hS hR (val m c .xr) ?_ ?_ ?_
  · rfl
  · exact src_eq m c .xr _ (unit_set rfl)
  · intro fd
    refine dst_eq m c' .zr _ (unit_set rfl) _ (fun x => ?_) fd
    subst hc; show zN m (zp c) (lo + 1 * (x 0).val) (0 + 1 * (x 1).val) = xN m c (lo + 1 * (x 0).val) (0 + 1 * (x 1).val)
    rw [carry_z]

/-- Rows received across `z`, forwarded across `y` into the neighbour's result. -/
theorem send_a (t : Fin 21) (lo n : ℕ) (ht : tb t = ⟨1, .zr, lo, n, shY, .ou, lo, (tb t).ss, (tb t).rs, (tb t).lv⟩) (hn : lo + n ≤ 344)
    {off : Fin 2 → ℕ} (hoff : off = ![oppRow c' + lo, 0])
    (hc : c' = yp c) (hi : i = t.val) (hi' : i' = i + 1) (hA : t ∉ A) (hS : sS = csem (some (false, t))) (hR : sR = csem (some (true, t)))
    {inb inb' hsc} {hsrc : (vZ lo n inb).view.WordExact} {hdst : (vO off n inb').view.WordExact} {hsem}
    {k : PUnit → Prog (TpuEff nD τ sig (Elt F) Λ₀ .tc) α} {Q : α → sProp 𝕄} :
    eng m K c i A R S D
      ⊢ iprop(have' m c .zr lo n 0 shY -∗ (eng m K c i' A R S D -∗ run c (k ⟨⟩) Q)
          -∗ run c (.op (.enqueueDma (vZ lo n inb) (.remote (Dev.tc c' : Thread nD τ) (vO off n inb') sS hsc) sR hsrc hdst hsem) k) Q) := by
  refine send_core m K t 1 .zr lo n shY .ou lo ht (oppRow c' + lo) rfl hc hi hi' hA hS hR (val m c .zr) ?_ ?_ ?_
  · rfl
  · exact src_eq m c .zr _ (unit_set rfl)
  · intro fd
    refine dst_eq m c' .ou _ (unit_set hoff) _ (fun x => ?_) fd
    subst hc hoff; have hx : (x 0).val < n := (x 0).isLt
    show oN m (yp c) (oppRow (yp c) + lo + 1 * (x 0).val) (0 + 1 * (x 1).val) = zN m c (lo + 1 * (x 0).val) (0 + 1 * (x 1).val)
    rw [Nat.add_assoc, carry_a m c _ _ (by omega)]

/-- Rows received across `y`, forwarded across `z` into the neighbour's result. -/
theorem send_b (t : Fin 21) (lo n : ℕ) (ht : tb t = ⟨2, .yr, lo, n, shY, .ou, lo, (tb t).ss, (tb t).rs, (tb t).lv⟩) (hlo : 344 ≤ lo) (hn : lo + n ≤ 680)
    {off : Fin 2 → ℕ} (hoff : off = ![oppRow c' + lo, 0])
    (hc : c' = zp c) (hi : i = t.val) (hi' : i' = i + 1) (hA : t ∉ A) (hS : sS = csem (some (false, t))) (hR : sR = csem (some (true, t)))
    {inb inb' hsc} {hsrc : (vY lo n inb).view.WordExact} {hdst : (vO off n inb').view.WordExact} {hsem}
    {k : PUnit → Prog (TpuEff nD τ sig (Elt F) Λ₀ .tc) α} {Q : α → sProp 𝕄} :
    eng m K c i A R S D
      ⊢ iprop(have' m c .yr lo n 0 shY -∗ (eng m K c i' A R S D -∗ run c (k ⟨⟩) Q)
          -∗ run c (.op (.enqueueDma (vY lo n inb) (.remote (Dev.tc c' : Thread nD τ) (vO off n inb') sS hsc) sR hsrc hdst hsem) k) Q) := by
  refine send_core m K t 2 .yr lo n shY .ou lo ht (oppRow c' + lo) rfl hc hi hi' hA hS hR (val m c .yr) ?_ ?_ ?_
  · rfl
  · exact src_eq m c .yr _ (unit_set rfl)
  · intro fd
    refine dst_eq m c' .ou _ (unit_set hoff) _ (fun x => ?_) fd
    subst hc hoff; have hx : (x 0).val < n := (x 0).isLt
    show oN m (zp c) (oppRow (zp c) + lo + 1 * (x 0).val) (0 + 1 * (x 1).val) = yN m c (lo + 1 * (x 0).val) (0 + 1 * (x 1).val)
    rw [Nat.add_assoc, carry_b m c _ _ (by omega) (by omega)]

end

/-! ## Copies within a device -/

section
variable {c : Dev nD} {i : ℕ} {A R : List (Fin 21)} {S D : List (Fin 19)} {sm : SemLoc sig}

/-- A local copy of the table, its entry spelt out. -/
theorem copy_core (l : Fin 19) (b : Bf) (lo co : ℕ) (n : ℕ) (s : PosShare TreeShare) (b' : Bf) (lo' : ℕ) {g g' g'' : Dev nD → ℕ}
    (ht : lb l = ⟨b, g, g', n, s, b', g'', (lb l).s⟩) (hg : g c = lo) (hg' : g' c = co) (hg'' : g'' c = lo')
    (hS : l ∉ S) (hD : l ∉ D) (hs : sm = .dma (lb l).s)
    {sp sp' : Space} {sh : Shape} {src : Memref sig .tc sp sh .f32} {dst : Memref sig .tc sp' sh .f32}
    {hsrc : src.view.WordExact} {hdst : dst.view.WordExact} {hsem : DmaTarget.Typed (nD := nD) sp sm (.here dst : DmaTarget nD τ sig .tc sp' sh .f32)}
    (fs : Buf (Elt F) (src.view.loc (c : Thread nD τ))) (hN : dst.view.amount (.dma (lb l).s) = (ref b').dmaCredit ⟨2, ![n, 1024]⟩ .f32)
    (h1 : have' m c b lo n co s = (src.view.loc (c : Thread nD τ) ↦[src.view.set]{s} fs))
    (h2 : ∀ fd, ∃ fd' : Buf (Elt F) (dst.view.loc (c : Thread nD τ)),
      pts (F := F) c b' lo' n 0 fullShare fd = (dst.view.loc (c : Thread nD τ) ↦[dst.view.set]{fullShare} fd')
      ∧ (dst.view.loc (c : Thread nD τ) ↦[dst.view.set]{fullShare} dst.view.write (Elt F) fd' (src.view.read (Elt F) fs) Finset.univ)
        = have' m c b' lo' n 0 fullShare)
    {k : PUnit → Prog (TpuEff nD τ sig (Elt F) Λ₀ .tc) α} {Q : α → sProp 𝕄} :
    eng m K c i A R S D
      ⊢ iprop(have' m c b lo n co s -∗ (eng m K c i A R (l :: S) D -∗ run c (k ⟨⟩) Q)
          -∗ run c (.op (.enqueueDma src (.here dst) sm hsrc hdst hsem) k) Q) := by
  subst hg hg' hg''
  have e1 : locSrc m l c = have' m c b (g c) n (g' c) s := by unfold locSrc; rw [ht]
  have e2 : locDst m l c = have' m c b' (g'' c) n 0 fullShare := by unfold locDst; rw [ht]
  rw [← e1]
  refine curry (eng_copy m K l c i hS hD hs fs ?_ ?_ ?_)
  · rw [hs, hN]; unfold lamt; rw [ht]
  · rw [e1, ht]; exact h1
  · rw [e2, ht]; exact h2

/-- Rows received across `x`, copied to the result. -/
theorem copy_x (l : Fin 19) (lo n : ℕ) (ht : lb l = cpX lo n (lb l).s) (hn : lo + n ≤ 1024) {off : Fin 2 → ℕ} (hoff : off = ![quart c (q c) + lo, 0])
    (hS : l ∉ S) (hD : l ∉ D) (hs : sm = .dma (lb l).s)
    {inb inb'} {hsrc : (vX lo n inb).view.WordExact} {hdst : (vO off n inb').view.WordExact} {hsem}
    {k : PUnit → Prog (TpuEff nD τ sig (Elt F) Λ₀ .tc) α} {Q : α → sProp 𝕄} :
    eng m K c i A R S D
      ⊢ iprop(have' m c .xr lo n 0 shC -∗ (eng m K c i A R (l :: S) D -∗ run c (k ⟨⟩) Q)
          -∗ run c (.op (.enqueueDma (vX lo n inb) (.here (vO off n inb')) sm hsrc hdst hsem) k) Q) := by
  refine copy_core m K l .xr lo 0 n shC .ou (quart c (q c) + lo) ht rfl rfl rfl hS hD hs (val m c .xr) ?_ ?_ ?_
  · rfl
  · exact src_eq m c .xr _ (unit_set rfl)
  · intro fd
    refine dst_eq m c .ou _ (unit_set hoff) _ (fun x => ?_) fd
    subst hoff; have hx : (x 0).val < n := (x 0).isLt
    show oN m c (quart c (q c) + lo + 1 * (x 0).val) (0 + 1 * (x 1).val) = xN m c (lo + 1 * (x 0).val) (0 + 1 * (x 1).val)
    rw [Nat.add_assoc, carry_cx m c _ _ (by omega)]

/-- Rows received across `y`, copied to the result. -/
theorem copy_y (l : Fin 19) (lo n : ℕ) (ht : lb l = cpY lo n (lb l).s) (hn : lo + n ≤ 1024) {off : Fin 2 → ℕ} (hoff : off = ![quart c (q (yp c)) + lo, 0])
    (hS : l ∉ S) (hD : l ∉ D) (hs : sm = .dma (lb l).s)
    {inb inb'} {hsrc : (vY lo n inb).view.WordExact} {hdst : (vO off n inb').view.WordExact} {hsem}
    {k : PUnit → Prog (TpuEff nD τ sig (Elt F) Λ₀ .tc) α} {Q : α → sProp 𝕄} :
    eng m K c i A R S D
      ⊢ iprop(have' m c .yr lo n 0 fullShare.right -∗ (eng m K c i A R (l :: S) D -∗ run c (k ⟨⟩) Q)
          -∗ run c (.op (.enqueueDma (vY lo n inb) (.here (vO off n inb')) sm hsrc hdst hsem) k) Q) := by
  refine copy_core m K l .yr lo 0 n fullShare.right .ou (quart c (q (yp c)) + lo) ht rfl rfl rfl hS hD hs (val m c .yr) ?_ ?_ ?_
  · rfl
  · exact src_eq m c .yr _ (unit_set rfl)
  · intro fd
    refine dst_eq m c .ou _ (unit_set hoff) _ (fun x => ?_) fd
    subst hoff; have hx : (x 0).val < n := (x 0).isLt
    show oN m c (quart c (q (yp c)) + lo + 1 * (x 0).val) (0 + 1 * (x 1).val) = yN m c (lo + 1 * (x 0).val) (0 + 1 * (x 1).val)
    rw [Nat.add_assoc, carry_cy m c _ _ (by omega)]

/-- Rows received across `z`, copied to the result. -/
theorem copy_z (l : Fin 19) (lo n : ℕ) (ht : lb l = cpZ lo n (lb l).s) (hn : lo + n ≤ 1024) {off : Fin 2 → ℕ} (hoff : off = ![quart c (q (zp c)) + lo, 0])
    (hS : l ∉ S) (hD : l ∉ D) (hs : sm = .dma (lb l).s)
    {inb inb'} {hsrc : (vZ lo n inb).view.WordExact} {hdst : (vO off n inb').view.WordExact} {hsem}
    {k : PUnit → Prog (TpuEff nD τ sig (Elt F) Λ₀ .tc) α} {Q : α → sProp 𝕄} :
    eng m K c i A R S D
      ⊢ iprop(have' m c .zr lo n 0 fullShare.right -∗ (eng m K c i A R (l :: S) D -∗ run c (k ⟨⟩) Q)
          -∗ run c (.op (.enqueueDma (vZ lo n inb) (.here (vO off n inb')) sm hsrc hdst hsem) k) Q) := by
  refine copy_core m K l .zr lo 0 n fullShare.right .ou (quart c (q (zp c)) + lo) ht rfl rfl rfl hS hD hs (val m c .zr) ?_ ?_ ?_
  · rfl
  · exact src_eq m c .zr _ (unit_set rfl)
  · intro fd
    refine dst_eq m c .ou _ (unit_set hoff) _ (fun x => ?_) fd
    subst hoff; have hx : (x 0).val < n := (x 0).isLt
    show oN m c (quart c (q (zp c)) + lo + 1 * (x 0).val) (0 + 1 * (x 1).val) = zN m c (lo + 1 * (x 0).val) (0 + 1 * (x 1).val)
    rw [Nat.add_assoc, carry_cz m c _ _ (by omega)]

/-- The rows kept, read from the argument. -/
theorem keep_in {off : Fin 2 → ℕ} (hoff : off = ![0, 1024 * xc c]) (hS : 0 ∉ S) (hD : 0 ∉ D) (hs : sm = .dma (lb 0).s)
    {inb} {hsrc : (vA off 4096 inb).view.WordExact} {hdst : (Memref.whole cc0_scratch4).view.WordExact} {hsem}
    {k : PUnit → Prog (TpuEff nD τ sig (Elt F) Λ₀ .tc) α} {Q : α → sProp 𝕄} :
    eng m K c i A R S D
      ⊢ iprop(have' m c .ar 0 4096 (1024 * xc c) shY -∗ (eng m K c i A R (0 :: S) D -∗ run c (k ⟨⟩) Q)
          -∗ run c (.op (.enqueueDma (vA off 4096 inb) (.here (Memref.whole cc0_scratch4)) sm hsrc hdst hsem) k) Q) := by
  refine copy_core m K 0 .ar 0 (1024 * xc c) 4096 shY .kb 0 rfl rfl rfl rfl hS hD hs (val m c .ar) ?_ ?_ ?_
  · rfl
  · exact src_eq m c .ar _ (unit_set hoff)
  · intro fd
    refine ⟨fd, ?_, ?_⟩
    · unfold pts; rw [reg_kb, View.set_whole]
    · rw [View.set_whole, View.write_whole_univ]
      unfold have' pts
      rw [reg_kb]
      refine pointsTo_congr fun x _ => ?_
      subst hoff
      show gN m c (0 + 1 * (x 0).val) (1024 * xc c + 1 * (x 1).val) = kN m c (x 0).val (x 1).val
      rw [Nat.zero_add, Nat.one_mul, Nat.one_mul]; rfl

/-- The rows kept, written to the result. -/
theorem keep_out {off : Fin 2 → ℕ} (hoff : off = ![4096 * xc c, 0]) (hS : 18 ∉ S) (hD : 18 ∉ D) (hs : sm = .dma (lb 18).s)
    {inb} {hdst : (vO off 4096 inb).view.WordExact} {hsrc : (Memref.whole cc0_scratch4).view.WordExact} {hsem}
    {k : PUnit → Prog (TpuEff nD τ sig (Elt F) Λ₀ .tc) α} {Q : α → sProp 𝕄} :
    eng m K c i A R S D
      ⊢ iprop(have' m c .kb 0 4096 0 fullShare -∗ (eng m K c i A R (18 :: S) D -∗ run c (k ⟨⟩) Q)
          -∗ run c (.op (.enqueueDma (Memref.whole cc0_scratch4) (.here (vO off 4096 inb)) sm hsrc hdst hsem) k) Q) := by
  refine copy_core m K 18 .kb 0 0 4096 fullShare .ou (4096 * xc c) rfl rfl rfl rfl hS hD hs (val m c .kb) ?_ ?_ ?_
  · rfl
  · unfold have' pts; rw [reg_kb, View.set_whole]
  · intro fd
    refine dst_eq m c .ou _ (unit_set hoff) _ (fun x => ?_) fd
    subst hoff; have hx : (x 0).val < 4096 := (x 0).isLt
    show oN m c (4096 * xc c + 1 * (x 0).val) (0 + 1 * (x 1).val) = kN m c (x 0).val (x 1).val
    rw [Nat.one_mul, oN_near m c _ _ hx, Nat.zero_add, Nat.one_mul]

/-- The staged rows, read from the argument: the device's own quarter. -/
theorem stage_own {off : Fin 2 → ℕ} (hoff : off = ![1024 * q c, 1024 * (1 - xc c)]) (hS : 1 ∉ S) (hD : 1 ∉ D) (hs : sm = .dma (lb 1).s)
    {inb inb'} {hsrc : (vA off 1024 inb).view.WordExact} {hdst : (vS 0 1024 inb').view.WordExact} {hsem}
    {k : PUnit → Prog (TpuEff nD τ sig (Elt F) Λ₀ .tc) α} {Q : α → sProp 𝕄} :
    eng m K c i A R S D
      ⊢ iprop(have' m c .ar (1024 * q c) 1024 (1024 * (1 - xc c)) shZ -∗ (eng m K c i A R (1 :: S) D -∗ run c (k ⟨⟩) Q)
          -∗ run c (.op (.enqueueDma (vA off 1024 inb) (.here (vS 0 1024 inb')) sm hsrc hdst hsem) k) Q) := by
  refine copy_core m K 1 .ar (1024 * q c) (1024 * (1 - xc c)) 1024 shZ .sb 0 rfl rfl rfl rfl hS hD hs (val m c .ar) ?_ ?_ ?_
  · rfl
  · exact src_eq m c .ar _ (unit_set hoff)
  · intro fd
    refine dst_eq m c .sb _ (unit_set rfl) _ (fun x => ?_) fd
    subst hoff; have hx : (x 0).val < 1024 := (x 0).isLt
    show sN m c (0 + 1 * (x 0).val) (0 + 1 * (x 1).val) = gN m c (1024 * q c + 1 * (x 0).val) (1024 * (1 - xc c) + 1 * (x 1).val)
    rw [Nat.zero_add, Nat.one_mul, Nat.one_mul, Nat.zero_add, carry_s0 m c _ _ hx]

/-- The staged rows, read from the argument: the tail of the opposite quarter. -/
theorem stage_opp {off : Fin 2 → ℕ} (hoff : off = ![1024 * qd c + 680, 1024 * (1 - xc c)]) (hS : 2 ∉ S) (hD : 2 ∉ D) (hs : sm = .dma (lb 2).s)
    {inb inb'} {hsrc : (vA off 344 inb).view.WordExact} {hdst : (vS 1024 344 inb').view.WordExact} {hsem}
    {k : PUnit → Prog (TpuEff nD τ sig (Elt F) Λ₀ .tc) α} {Q : α → sProp 𝕄} :
    eng m K c i A R S D
      ⊢ iprop(have' m c .ar (1024 * qd c + 680) 344 (1024 * (1 - xc c)) shC -∗ (eng m K c i A R (2 :: S) D -∗ run c (k ⟨⟩) Q)
          -∗ run c (.op (.enqueueDma (vA off 344 inb) (.here (vS 1024 344 inb')) sm hsrc hdst hsem) k) Q) := by
  refine copy_core m K 2 .ar (1024 * qd c + 680) (1024 * (1 - xc c)) 344 shC .sb 1024 rfl rfl rfl rfl hS hD hs (val m c .ar) ?_ ?_ ?_
  · rfl
  · exact src_eq m c .ar _ (unit_set hoff)
  · intro fd
    refine dst_eq m c .sb _ (unit_set rfl) _ (fun x => ?_) fd
    subst hoff
    show sN m c (1024 + 1 * (x 0).val) (0 + 1 * (x 1).val) = gN m c (1024 * qd c + 680 + 1 * (x 0).val) (1024 * (1 - xc c) + 1 * (x 1).val)
    rw [Nat.one_mul, Nat.one_mul, Nat.zero_add, carry_s1]

end

end Cert.Exchange

end
-- ==== Proof.Regions.lean ====
/-
# Cutting and joining regions

A region of rows is the two regions it is cut into; a region at a share is the same region at the share's two halves. From
these the buffers are cut into the pieces the copies read and write, and joined again.
-/
module

public import proofs.«01_k».proof.Proof.Values

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Separating conjunction, as equations -/

theorem eq_of {P Q : sProp 𝕄} (h : P ⊣⊢ Q) : P = Q := Entails.antisymm h.1 h.2
theorem sep_swap {P Q : sProp 𝕄} : iprop(P ∗ Q) = iprop(Q ∗ P) := eq_of ⟨BI.sep_comm, BI.sep_comm⟩
theorem sep_turn {P Q R : sProp 𝕄} : iprop((P ∗ Q) ∗ R) = iprop(P ∗ Q ∗ R) := eq_of ⟨BI.sep_assoc, BI.sep_assoc'⟩
theorem sep_skip {P Q R : sProp 𝕄} : iprop(P ∗ Q ∗ R) = iprop(Q ∗ P ∗ R) := by rw [← sep_turn, sep_swap (P := P) (Q := Q), sep_turn]

/-! ## Cutting a region -/

/-- Rows cut in two. -/
theorem pts_rows (c : Dev nD) (b : Bf) (lo n₁ n₂ co : ℕ) (s : PosShare TreeShare) (f : (ref b).ty.Contents (Elt F)) :
    pts (F := F) c b lo (n₁ + n₂) co s f = iprop(pts c b lo n₁ co s f ∗ pts c b (lo + n₁) n₂ co s f) := by
  have hd : Disjoint (reg b lo n₁ co) (reg b (lo + n₁) n₂ co) := by
    rw [Finset.disjoint_left]
    intro i h1 h2
    have := (Finset.mem_filter.mp h1).2; have := (Finset.mem_filter.mp h2).2; omega
  have hu : reg b lo (n₁ + n₂) co = reg b lo n₁ co ∪ reg b (lo + n₁) n₂ co := by
    ext i
    simp only [reg, Finset.mem_union, Finset.mem_filter, Finset.mem_univ, true_and]
    omega
  unfold pts
  rw [hu]
  exact eq_of (pointsTo_union hd)

/-- A share cut in two. -/
theorem pts_halves (c : Dev nD) (b : Bf) (lo n co : ℕ) (s : PosShare TreeShare) (f : (ref b).ty.Contents (Elt F)) :
    pts (F := F) c b lo n co s f = iprop(pts c b lo n co s.left f ∗ pts c b lo n co s.right f) := by
  unfold pts
  exact eq_of (pointsTo_share (PosShare.mem_left_op_right s))

/-- A share cut into the three the copies of a chunk read at. -/
theorem pts_thirds (c : Dev nD) (b : Bf) (lo n co : ℕ) (f : (ref b).ty.Contents (Elt F)) :
    pts (F := F) c b lo n co fullShare f = iprop(pts c b lo n co shY f ∗ pts c b lo n co shZ f ∗ pts c b lo n co shC f) := by
  rw [pts_halves c b lo n co fullShare, pts_halves c b lo n co fullShare.right]

/-- 1024 rows cut into the five chunks. -/
theorem pts_chunks (c : Dev nD) (b : Bf) (lo co : ℕ) (s : PosShare TreeShare) (f : (ref b).ty.Contents (Elt F)) :
    pts (F := F) c b lo 1024 co s f = iprop(pts c b lo 64 co s f ∗ pts c b (lo + 64) 192 co s f ∗ pts c b (lo + 256) 256 co s f
      ∗ pts c b (lo + 512) 256 co s f ∗ pts c b (lo + 768) 256 co s f) := by
  rw [pts_rows c b lo 64 960, pts_rows c b (lo + 64) 192 768, pts_rows c b (lo + 64 + 192) 256 512, pts_rows c b (lo + 64 + 192 + 256) 256 256]

/-- 1024 rows cut into the six pieces that reach the opposite quarter. -/
theorem pts_sixths (c : Dev nD) (b : Bf) (lo co : ℕ) (s : PosShare TreeShare) (f : (ref b).ty.Contents (Elt F)) :
    pts (F := F) c b lo 1024 co s f = iprop(pts c b lo 64 co s f ∗ pts c b (lo + 64) 192 co s f ∗ pts c b (lo + 256) 88 co s f
      ∗ pts c b (lo + 344) 168 co s f ∗ pts c b (lo + 512) 168 co s f ∗ pts c b (lo + 680) 344 co s f) := by
  rw [pts_rows c b lo 64 960, pts_rows c b (lo + 64) 192 768, pts_rows c b (lo + 64 + 192) 88 680, pts_rows c b (lo + 64 + 192 + 88) 168 512,
    pts_rows c b (lo + 64 + 192 + 88 + 168) 168 344]

/-- Four quarters, in the order a device meets them. -/
theorem quarters_perm (c : Dev nD) (Φ : ℕ → sProp 𝕄) :
    iprop(Φ 0 ∗ Φ 1 ∗ Φ 2 ∗ Φ 3) = iprop(Φ (q c) ∗ Φ (q (yp c)) ∗ Φ (q (zp c)) ∗ Φ (qd c)) := by
  have h : (q c = 0 ∧ q (yp c) = 2 ∧ q (zp c) = 1 ∧ qd c = 3) ∨ (q c = 1 ∧ q (yp c) = 3 ∧ q (zp c) = 0 ∧ qd c = 2)
      ∨ (q c = 2 ∧ q (yp c) = 0 ∧ q (zp c) = 3 ∧ qd c = 1) ∨ (q c = 3 ∧ q (yp c) = 1 ∧ q (zp c) = 2 ∧ qd c = 0) := by revert c; decide +kernel
  rcases h with ⟨h0, h1, h2, h3⟩ | ⟨h0, h1, h2, h3⟩ | ⟨h0, h1, h2, h3⟩ | ⟨h0, h1, h2, h3⟩ <;> rw [h0, h1, h2, h3]
  · rw [sep_skip (P := Φ 1)]
  · rw [sep_skip (P := Φ 0), sep_swap (P := Φ 2), sep_skip (P := Φ 0) (Q := Φ 3)]
  · rw [sep_skip (P := Φ 1), sep_skip (P := Φ 0) (Q := Φ 2), sep_swap (P := Φ 1)]
  · rw [sep_swap (P := Φ 2), sep_skip (P := Φ 1), sep_skip (P := Φ 0) (Q := Φ 3), sep_skip (P := Φ 0), sep_swap (P := Φ 0)]

/-- The result cut into the device's own half and the four quarters of the other. -/
theorem pts_result (c : Dev nD) (s : PosShare TreeShare) (f : (ref .ou).ty.Contents (Elt F)) :
    pts (F := F) c .ou 0 8192 0 s f = iprop(pts c .ou (4096 * xc c) 4096 0 s f ∗ pts c .ou (quart c (q c)) 1024 0 s f
      ∗ pts c .ou (quart c (q (yp c))) 1024 0 s f ∗ pts c .ou (quart c (q (zp c))) 1024 0 s f ∗ pts c .ou (oppRow c) 1024 0 s f) := by
  have h : pts (F := F) c .ou 0 8192 0 s f = iprop(pts c .ou (4096 * xc c) 4096 0 s f ∗ pts c .ou (4096 * (1 - xc c)) 4096 0 s f) := by
    have hx := xc_lt c
    rw [pts_rows c .ou 0 4096 4096]
    rcases (show xc c = 0 ∨ xc c = 1 by omega) with h | h <;> rw [h]
    exact sep_swap
  rw [h, ← quarters_perm c fun k => pts c .ou (quart c k) 1024 0 s f,
    pts_rows c .ou (4096 * (1 - xc c)) 1024 3072, pts_rows c .ou (4096 * (1 - xc c) + 1024) 1024 2048, pts_rows c .ou (4096 * (1 - xc c) + 1024 + 1024) 1024 1024]
  simp only [quart, Nat.add_assoc, Nat.reduceAdd, Nat.reduceMul, Nat.mul_zero, Nat.add_zero, Nat.mul_one]

/-! ## Whole buffers -/

theorem reg_whole (b : Bf) (lo n co : ℕ) (h : ∀ i : (ref b).ty.Idx, (lo ≤ row b i ∧ row b i < lo + n) ∧ (co ≤ col b i ∧ col b i < co + 1024)) :
    reg b lo n co = Finset.univ := Finset.filter_true_of_mem fun i _ => h i

/-- The rows of a buffer 1024 columns wide. -/
abbrev rows : Bf → ℕ
  | .ar => 4096 | .ou => 8192 | .sb => 1368 | .xr => 1024 | .yr => 1024 | .zr => 1024 | .kb => 4096

theorem pts_whole (c : Dev nD) (b : Bf) (hb : b ≠ .ar) (s : PosShare TreeShare) (f : (ref b).ty.Contents (Elt F)) :
    pts (F := F) c b 0 (rows b) 0 s f
      = ((c : Thread nD τ).loc (ref b) ↦[Finset.univ]{s} (f : Buf (Elt F) ((c : Thread nD τ).loc (ref b))) : sProp 𝕄) := by
  unfold pts
  rw [reg_whole]
  intro i
  have h0 : row b i < rows b := by cases b <;> exact (i 0).isLt
  have h1 : col b i < 1024 := by
    cases b
    · exact absurd rfl hb
    all_goals exact (i 1).isLt
  omega

/-- The rest of the argument, beside a region of it. -/
def others (c : Dev nD) (lo n co : ℕ) (s : PosShare TreeShare) (f : (ref .ar).ty.Contents (Elt F)) : sProp 𝕄 :=
  (c : Thread nD τ).loc main_arg0 ↦[Finset.univ \ reg .ar lo n co]{s} (f : Buf (Elt F) ((c : Thread nD τ).loc main_arg0))

theorem pts_others (c : Dev nD) (lo n co : ℕ) (s : PosShare TreeShare) (f : (ref .ar).ty.Contents (Elt F)) :
    ((c : Thread nD τ).loc main_arg0 ↦[Finset.univ]{s} (f : Buf (Elt F) ((c : Thread nD τ).loc main_arg0)) : sProp 𝕄)
      = iprop(pts c .ar lo n co s f ∗ others c lo n co s f) :=
  eq_of (pointsTo_split_subset (Finset.subset_univ _))

/-- The argument cut for its three readers. -/
theorem arg_cut (c : Dev nD) (f : (ref .ar).ty.Contents (Elt F)) (l₁ n₁ c₁ l₂ n₂ c₂ l₃ n₃ c₃ : ℕ) :
    ((c : Thread nD τ).loc main_arg0 ↦[Finset.univ]{fullShare} (f : Buf (Elt F) ((c : Thread nD τ).loc main_arg0)) : sProp 𝕄)
      = iprop((pts c .ar l₁ n₁ c₁ shY f ∗ pts c .ar l₂ n₂ c₂ shZ f ∗ pts c .ar l₃ n₃ c₃ shC f)
        ∗ (others c l₁ n₁ c₁ shY f ∗ others c l₂ n₂ c₂ shZ f ∗ others c l₃ n₃ c₃ shC f)) := by
  rw [eq_of (pointsTo_share (PosShare.mem_left_op_right fullShare)), eq_of (pointsTo_share (PosShare.mem_left_op_right fullShare.right)),
    pts_others c l₁ n₁ c₁ shY, pts_others c l₂ n₂ c₂ shZ, pts_others c l₃ n₃ c₃ shC]
  simp only [sep_turn, sep_skip]

end Cert.Exchange

end
-- ==== Proof.Offsets.lean ====
/-
# The program's devices and offsets

The device each copy goes to and the first row it reads or writes, as the tables name them: each by running through the
eight devices.
-/
module

public import proofs.«01_k».proof.Proof.Blocks

@[expose] public section

set_option maxRecDepth 16384

noncomputable section

namespace Cert.Exchange

open Cert.KernelIdeal Cert.KernelIdeal.Gen
open Idealize.ShloMosaic
open Idealize.ShloMosaic.TcCoe

/-! ## Devices -/

theorem dev1 (c : Dev nD) : (⟨k0_dev1 c, k0_dev1_lt c⟩ : Dev nD) = xp c := by revert c; decide +kernel
theorem dev2 (c : Dev nD) : (⟨k0_dev2 c, k0_dev2_lt c⟩ : Dev nD) = yp c := by revert c; decide +kernel
theorem dev3 (c : Dev nD) : (⟨k0_dev3 c, k0_dev3_lt c⟩ : Dev nD) = zp c := by revert c; decide +kernel
theorem dev4 (c : Dev nD) : (⟨k0_dev4 c, k0_dev4_lt c⟩ : Dev nD) = xp c := by revert c; decide +kernel
theorem dev5 (c : Dev nD) : (⟨k0_dev5 c, k0_dev5_lt c⟩ : Dev nD) = xp c := by revert c; decide +kernel
theorem dev6 (c : Dev nD) : (⟨k0_dev6 c, k0_dev6_lt c⟩ : Dev nD) = xp c := by revert c; decide +kernel
theorem dev7 (c : Dev nD) : (⟨k0_dev7 c, k0_dev7_lt c⟩ : Dev nD) = xp c := by revert c; decide +kernel
theorem dev8 (c : Dev nD) : (⟨k0_dev8 c, k0_dev8_lt c⟩ : Dev nD) = xp c := by revert c; decide +kernel
theorem dev9 (c : Dev nD) : (⟨k0_dev9 c, k0_dev9_lt c⟩ : Dev nD) = xp c := by revert c; decide +kernel
theorem dev10 (c : Dev nD) : (⟨k0_dev10 c, k0_dev10_lt c⟩ : Dev nD) = yp c := by revert c; decide +kernel
theorem dev11 (c : Dev nD) : (⟨k0_dev11 c, k0_dev11_lt c⟩ : Dev nD) = zp c := by revert c; decide +kernel
theorem dev12 (c : Dev nD) : (⟨k0_dev12 c, k0_dev12_lt c⟩ : Dev nD) = yp c := by revert c; decide +kernel
theorem dev13 (c : Dev nD) : (⟨k0_dev13 c, k0_dev13_lt c⟩ : Dev nD) = zp c := by revert c; decide +kernel
theorem dev14 (c : Dev nD) : (⟨k0_dev14 c, k0_dev14_lt c⟩ : Dev nD) = yp c := by revert c; decide +kernel
theorem dev15 (c : Dev nD) : (⟨k0_dev15 c, k0_dev15_lt c⟩ : Dev nD) = yp c := by revert c; decide +kernel
theorem dev16 (c : Dev nD) : (⟨k0_dev16 c, k0_dev16_lt c⟩ : Dev nD) = zp c := by revert c; decide +kernel
theorem dev17 (c : Dev nD) : (⟨k0_dev17 c, k0_dev17_lt c⟩ : Dev nD) = yp c := by revert c; decide +kernel
theorem dev18 (c : Dev nD) : (⟨k0_dev18 c, k0_dev18_lt c⟩ : Dev nD) = yp c := by revert c; decide +kernel
theorem dev19 (c : Dev nD) : (⟨k0_dev19 c, k0_dev19_lt c⟩ : Dev nD) = zp c := by revert c; decide +kernel
theorem dev20 (c : Dev nD) : (⟨k0_dev20 c, k0_dev20_lt c⟩ : Dev nD) = yp c := by revert c; decide +kernel
theorem dev21 (c : Dev nD) : (⟨k0_dev21 c, k0_dev21_lt c⟩ : Dev nD) = zp c := by revert c; decide +kernel
theorem dev22 (c : Dev nD) : (⟨k0_dev22 c, k0_dev22_lt c⟩ : Dev nD) = yp c := by revert c; decide +kernel
theorem dev23 (c : Dev nD) : (⟨k0_dev23 c, k0_dev23_lt c⟩ : Dev nD) = zp c := by revert c; decide +kernel
theorem dev24 (c : Dev nD) : (⟨k0_dev24 c, k0_dev24_lt c⟩ : Dev nD) = zp c := by revert c; decide +kernel

/-! ## Offsets of the argument -/

theorem off1 (c : Dev nD) : k0_off1 c = ![0, 1024 * xc c] := by revert c; decide +kernel
theorem off2 (c : Dev nD) : k0_off2 c = ![1024 * q c, 1024 * (1 - xc c)] := by revert c; decide +kernel
theorem off3 (c : Dev nD) : k0_off3 c = ![1024 * qd c + 680, 1024 * (1 - xc c)] := by revert c; decide +kernel

/-! ## Offsets of the result: the copies from a neighbour -/

theorem off4 (c : Dev nD) : k0_off4 c = ![oppRow (xp c) + 680, 0] := by revert c; decide +kernel
theorem off7a (c : Dev nD) : k0_off7 c = ![oppRow (yp c) + 0, 0] := by revert c; decide +kernel
theorem off10a (c : Dev nD) : k0_off10 c = ![oppRow (yp c) + 64, 0] := by revert c; decide +kernel
theorem off12 (c : Dev nD) : k0_off12 c = ![oppRow (yp c) + 256, 0] := by revert c; decide +kernel
theorem off14_0 (c : Dev nD) : k0_off14 c 344#32 = ![oppRow (zp c) + 344, 0] := by revert c; decide +kernel
theorem off14_1 (c : Dev nD) : k0_off14 c 512#32 = ![oppRow (zp c) + 512, 0] := by revert c; decide +kernel

/-! ## Offsets of the result: the copies within the device -/

theorem off5 (c : Dev nD) : k0_off5 c = ![quart c (q c) + 0, 0] := by revert c; decide +kernel
theorem off6 (c : Dev nD) : k0_off6 c = ![quart c (q c) + 64, 0] := by revert c; decide +kernel
theorem off9_0 (c : Dev nD) : k0_off9 c 256#32 = ![quart c (q c) + 256, 0] := by revert c; decide +kernel
theorem off9_1 (c : Dev nD) : k0_off9 c 512#32 = ![quart c (q c) + 512, 0] := by revert c; decide +kernel
theorem off9_2 (c : Dev nD) : k0_off9 c 768#32 = ![quart c (q c) + 768, 0] := by revert c; decide +kernel
theorem off7 (c : Dev nD) : k0_off7 c = ![quart c (q (zp c)) + 0, 0] := by revert c; decide +kernel
theorem off10 (c : Dev nD) : k0_off10 c = ![quart c (q (zp c)) + 64, 0] := by revert c; decide +kernel
theorem off13_0 (c : Dev nD) : k0_off13 c 256#32 = ![quart c (q (zp c)) + 256, 0] := by revert c; decide +kernel
theorem off13_1 (c : Dev nD) : k0_off13 c 512#32 = ![quart c (q (zp c)) + 512, 0] := by revert c; decide +kernel
theorem off13_2 (c : Dev nD) : k0_off13 c 768#32 = ![quart c (q (zp c)) + 768, 0] := by revert c; decide +kernel
theorem off8 (c : Dev nD) : k0_off8 c = ![quart c (q (yp c)) + 0, 0] := by revert c; decide +kernel
theorem off11 (c : Dev nD) : k0_off11 c = ![quart c (q (yp c)) + 64, 0] := by revert c; decide +kernel
theorem off15_0 (c : Dev nD) : k0_off15 c 256#32 = ![quart c (q (yp c)) + 256, 0] := by revert c; decide +kernel
theorem off15_1 (c : Dev nD) : k0_off15 c 512#32 = ![quart c (q (yp c)) + 512, 0] := by revert c; decide +kernel
theorem off15_2 (c : Dev nD) : k0_off15 c 768#32 = ![quart c (q (yp c)) + 768, 0] := by revert c; decide +kernel
theorem off16 (c : Dev nD) : k0_off16 c = ![4096 * xc c, 0] := by revert c; decide +kernel

end Cert.Exchange

end
-- ==== Proof.Parts.lean ====
/-
# The program, part by part

Each part of the program takes a device from one state to a later one. The parts are taken in program order, each from what
the part before it leaves.
-/
module

public import proofs.«01_k».proof.Proof.Steps
public import proofs.«01_k».proof.Proof.Regions
public import proofs.«01_k».proof.Proof.Offsets

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 21) → ℕ)

/-- A part of the program at the buffers and semaphores it is called with. -/
abbrev atBufs.{u} {β : Sort u} (f : (a0 : Memref sig .tc .hbm S4096x2048 .f32) → a0.IsWhole → (a1 : Memref sig .tc .hbm S8192x1024 .f32) → a1.IsWhole →
    (a2 : Memref sig .tc .vmem S1368x1024 .f32) → a2.IsWhole → (a3 : Memref sig .tc .vmem S1024x1024 .f32) → a3.IsWhole →
    (a4 : Memref sig .tc .vmem S1024x1024 .f32) → a4.IsWhole → (a5 : Memref sig .tc .vmem S1024x1024 .f32) → a5.IsWhole →
    (a6 : Memref sig .tc .vmem S4096x1024 .f32) → a6.IsWhole → DmaSems sig S_ → DmaSems sig S_ → DmaSems sig S2 → DmaSems sig S6 → DmaSems sig S6 →
    DmaSems sig S8 → DmaSems sig S8 → DmaSems sig S7 → DmaSems sig S7 → DmaSems sig S15 → β) : β :=
  f (Memref.whole main_arg0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10 cc0_scratch11
    cc0_scratch12 cc0_scratch13 cc0_scratch14

/-- A chunk received across `x`, cut for its three readers; one received across `y` or `z`, for its two. -/
theorem cut3 (c : Dev nD) (b : Bf) (lo n : ℕ) : have' m c b lo n 0 fullShare ⊢ iprop(have' m c b lo n 0 shY ∗ have' m c b lo n 0 shZ ∗ have' m c b lo n 0 shC) :=
  Entails.of_eq (pts_thirds c b lo n 0 (val m c b))
theorem cut2 (c : Dev nD) (b : Bf) (lo n : ℕ) : have' m c b lo n 0 fullShare ⊢ iprop(have' m c b lo n 0 shY ∗ have' m c b lo n 0 fullShare.right) :=
  Entails.of_eq (pts_halves c b lo n 0 fullShare (val m c b))

/-- A region cut by rows; the staged quarter cut into its five chunks. -/
theorem cutRows (c : Dev nD) (b : Bf) (lo n₁ n₂ : ℕ) : have' m c b lo (n₁ + n₂) 0 shY ⊢ iprop(have' m c b lo n₁ 0 shY ∗ have' m c b (lo + n₁) n₂ 0 shY) :=
  Entails.of_eq (pts_rows c b lo n₁ n₂ 0 shY (val m c b))
theorem cut5 (c : Dev nD) : locDst m 1 c ⊢ iprop(have' m c .sb 0 64 0 fullShare ∗ have' m c .sb 64 192 0 fullShare ∗ have' m c .sb 256 256 0 fullShare
    ∗ have' m c .sb 512 256 0 fullShare ∗ have' m c .sb 768 256 0 fullShare) :=
  Entails.of_eq (pts_chunks c .sb 0 0 fullShare (val m c .sb))

/-- What has come back and is not needed before the end. -/
def bag : List (sProp 𝕄) → sProp 𝕄
  | [] => iprop(emp)
  | P :: L => iprop(P ∗ bag L)

omit [FloatOps F] in
theorem put {P : sProp 𝕄} {L : List (sProp 𝕄)} : P ⊢ iprop(bag L -∗ bag (P :: L)) := by
  show P ⊢ iprop(bag L -∗ (P ∗ bag L))
  iintro HP HL
  isplitl [HP]; · iexact HP
  iexact HL

omit [FloatOps F] in
theorem run_ret (c : Dev nD) {β : Type} (a : β) (Q : β → sProp 𝕄) : Q a ⊢ run (F := F) c (.ret a) Q := by
  show Q a ⊢ wp frame _ _ _ _
  rw [wp_ret]
  iintro H
  imodintro
  iexact H

/-! ## Waits whose gain is laid aside -/

section Keep
variable {α : Type} {c : Dev nD} {i : ℕ} {A R : List (Fin 21)} {S D : List (Fin 19)} {sp sp' : Space} {s s' : Shape} {e e' : EltTy} {sem : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α}

theorem keep_recv (t : Fin 21) {Q : α → sProp 𝕄} {L : List (sProp 𝕄)} (ht : t ∉ R) (hl : ∀ u : Fin 21, i ≤ u.val → (tb t).lv < (tb u).lv)
    (hs : sem = semOf (true, t)) (hN : dstw.view.dmaCredit = amt t) :
    eng m K c i A R S D ⊢ iprop(bag L -∗ (eng m K c i A (t :: R) S D -∗ bag (recvPay m t c :: L) -∗ run c (k ⟨⟩) Q)
      -∗ run c (.op (.waitDma2 sem srcw dstw hsrc hdst) k) Q) := by
  iintro HE HB Hk
  iapply (eng_recv m K t c i (R := R) ht hl hs hN) $$ HE
  iintro ⟨HE, HP⟩
  iapply Hk $$ HE
  iapply put $$ HP HB

theorem keep_sent (t : Fin 21) {Q : α → sProp 𝕄} {L : List (sProp 𝕄)} (ht : t ∉ A) (hi : t.val < i) (hl : ∀ u : Fin 21, i ≤ u.val → 0 < (tb u).lv)
    (hs : sem = semOf (false, t)) (hN : dstw.view.dmaCredit = amt t) :
    eng m K c i A R S D ⊢ iprop(bag L -∗ (eng m K c i (t :: A) R S D -∗ bag (sendPay m t c :: L) -∗ run c (k ⟨⟩) Q)
      -∗ run c (.op (.waitDma2 sem srcw dstw hsrc hdst) k) Q) := by
  iintro HE HB Hk
  iapply (eng_sent m K t c i (A := A) ht hi hl hs hN) $$ HE
  iintro ⟨HE, HP⟩
  iapply Hk $$ HE
  iapply put $$ HP HB

theorem keep_copied (l : Fin 19) {Q : α → sProp 𝕄} {L : List (sProp 𝕄)} (hS : l ∈ S) (hD : l ∉ D) (hl : ∀ u : Fin 21, i ≤ u.val → 0 < (tb u).lv)
    (hs : sem = (lb l).s) (hN : dstw.view.dmaCredit = lamt l) :
    eng m K c i A R S D ⊢ iprop(bag L -∗ (eng m K c i A R S (l :: D) -∗ bag (locDst m l c :: locSrc m l c :: L) -∗ run c (k ⟨⟩) Q)
      -∗ run c (.op (.waitDma2 sem srcw dstw hsrc hdst) k) Q) := by
  iintro HE HB Hk
  iapply (eng_copied m K l c i (S := S) (D := D) hS hD hl hs hN) $$ HE
  iintro ⟨HE, HP, HP'⟩
  iapply Hk $$ HE
  iapply put $$ HP
  iapply put $$ HP' HB

end Keep

/-! ## The parts -/

theorem part3 (c : Dev nD) (v0 v1 v2 : BitVec 32) {L : List (sProp 𝕄)} (Kt : _ → sProp 𝕄) :
    iprop(eng m K c 0 [] [] [2, 1, 0] [] ∗ bag L)
      ⊢ iprop((∀ w, (eng m K c 2 [] [] [2, 1, 0] [1] ∗ bag (locSrc m 1 c :: L) ∗ have' m c .sb 256 256 0 fullShare ∗ have' m c .sb 512 256 0 fullShare ∗ have' m c .sb 768 256 0 fullShare) -∗ Kt w)
        -∗ run c (atBufs (k0_part3 (F := F)) c v0 v1 v2) Kt) := by
  rw [k0_part3_eq_skeleton]
  unfold k0_part3_skel
  simp only [Prog.lift, Prog.bind_op, Prog.bind_ret, Prog.pure_eq_ret]
  iintro ⟨HE, HB⟩ Hk
  iapply (eng_copied m K 1 c 0 (S := [2, 1, 0]) (D := []) (by decide) (by decide) (by decide +kernel) rfl rfl) $$ HE
  iintro ⟨HE, Hd, Hs⟩
  ihave HB := put $$ Hs HB
  ihave Hc := (cut5 m c) $$ Hd
  icases Hc with ⟨H0, H1, G0, G1, G2⟩
  iapply (send_x m K (A := []) (i := 0) (i' := 1) 0 0 64 rfl (dev4 c) rfl rfl (by decide) rfl rfl) $$ HE H0
  iintro HE
  iapply (send_x m K (A := []) (i := 1) (i' := 2) 1 64 192 rfl (dev5 c) rfl rfl (by decide) rfl rfl) $$ HE H1
  iintro HE
  iapply run_ret
  iapply Hk $$ %_
  isplitl [HE]; · iexact HE
  isplitl [HB]; · iexact HB
  isplitl [G0]; · iexact G0
  isplitl [G1]; · iexact G1
  iexact G2

theorem part4 (c : Dev nD) (v0 v1 v2 v3 v4 : BitVec 32) {L : List (sProp 𝕄)} (Kt : PUnit → sProp 𝕄) :
    iprop(eng m K c 2 [] [] [2, 1, 0] [1] ∗ bag L ∗ have' m c .sb 256 256 0 fullShare ∗ have' m c .sb 512 256 0 fullShare)
      ⊢ iprop(((eng m K c 4 [] [] [2, 1, 0] [1] ∗ bag L) -∗ Kt ⟨⟩)
        -∗ run c (atBufs (k0_part4 (F := F)) c v0 v1 v2 v3 v4) Kt) := by
  rw [k0_part4_eq_skeleton]
  unfold k0_part4_skel
  simp only [Prog.lift, Prog.bind_op, Prog.bind_ret, Prog.pure_eq_ret]
  iintro ⟨HE, HB, H0, H1⟩ Hk
  iapply (send_x m K (A := []) (i := 2) (i' := 3) 2 256 256 rfl (dev6 c) rfl rfl (by decide) rfl rfl) $$ HE H0
  iintro HE
  iapply (send_x m K (A := []) (i := 3) (i' := 4) 3 512 256 rfl (dev7 c) rfl rfl (by decide) rfl rfl) $$ HE H1
  iintro HE
  iapply run_ret
  iapply Hk
  isplitl [HE]; · iexact HE
  iexact HB

theorem part5 (c : Dev nD) (v0 v1 v2 v3 v4 : BitVec 32) {L : List (sProp 𝕄)} (Kt : PUnit → sProp 𝕄) :
    iprop(eng m K c 4 [] [] [2, 1, 0] [1] ∗ bag L ∗ have' m c .sb 768 256 0 fullShare)
      ⊢ iprop(((eng m K c 6 [] [0] [2, 1, 0] [2, 1] ∗ bag (locSrc m 2 c :: L) ∗ recvPay m 0 c) -∗ Kt ⟨⟩)
        -∗ run c (atBufs (k0_part5 (F := F)) c v0 v1 v2 v3 v4) Kt) := by
  rw [k0_part5_eq_skeleton]
  unfold k0_part5_skel
  simp only [Prog.lift, Prog.bind_op, Prog.bind_ret, Prog.pure_eq_ret]
  iintro ⟨HE, HB, H0⟩ Hk
  iapply (send_x m K (A := []) (i := 4) (i' := 5) 4 768 256 rfl (dev8 c) rfl rfl (by decide) rfl rfl) $$ HE H0
  iintro HE
  iapply (eng_copied m K 2 c 5 (S := [2, 1, 0]) (D := [1]) (by decide) (by decide) (by decide +kernel) rfl rfl) $$ HE
  iintro ⟨HE, Hd, Hs⟩
  ihave HB := put $$ Hs HB
  ihave Hd := (show locDst m 2 c ⊢ have' m c .sb 1024 344 0 fullShare from Entails.rfl) $$ Hd
  iapply (send_e m K (A := []) (i := 5) (i' := 6) (by rw [dev9]; exact off4 c) (dev9 c) rfl rfl (by decide) rfl rfl) $$ HE Hd
  iintro HE
  iapply (eng_recv m K 0 c 6 (R := []) (by decide) (by decide +kernel) rfl rfl) $$ HE
  iintro ⟨HE, G0⟩
  iapply run_ret
  iapply Hk
  isplitl [HE]; · iexact HE
  isplitl [HB]; · iexact HB
  iexact G0

theorem part6 (c : Dev nD) (v0 v1 v2 v3 v4 v5 v6 : BitVec 32) {L : List (sProp 𝕄)} (Kt : PUnit → sProp 𝕄) :
    iprop(eng m K c 6 [] [0] [2, 1, 0] [2, 1] ∗ bag L ∗ recvPay m 0 c)
      ⊢ iprop(((eng m K c 8 [] [0] [3, 2, 1, 0] [2, 1] ∗ bag L) -∗ Kt ⟨⟩)
        -∗ run c (atBufs (k0_part6 (F := F)) c v0 v1 v2 v3 v4 v5 v6) Kt) := by
  rw [k0_part6_eq_skeleton]
  unfold k0_part6_skel
  simp only [Prog.lift, Prog.bind_op, Prog.bind_ret, Prog.pure_eq_ret]
  iintro ⟨HE, HB, H0⟩ Hk
  ihave Hc := (show recvPay m 0 c ⊢ _ from cut3 m c .xr 0 64) $$ H0
  icases Hc with ⟨H1, H2, H3⟩
  iapply (send_y m K (A := []) (i := 6) (i' := 7) 6 0 64 rfl (dev10 c) rfl rfl (by decide) rfl rfl) $$ HE H1
  iintro HE
  iapply (send_z m K (A := []) (i := 7) (i' := 8) 7 0 64 rfl (dev11 c) rfl rfl (by decide) rfl rfl) $$ HE H2
  iintro HE
  iapply (copy_x m K (S := [2, 1, 0]) (D := [2, 1]) 3 0 64 rfl (by decide) (off5 c) (by decide) (by decide) rfl) $$ HE H3
  iintro HE
  iapply run_ret
  iapply Hk
  isplitl [HE]; · iexact HE
  iexact HB

theorem part7 (c : Dev nD) (v0 v1 v2 v3 v4 v5 : BitVec 32) {L : List (sProp 𝕄)} (Kt : PUnit → sProp 𝕄) :
    iprop(eng m K c 8 [] [0] [3, 2, 1, 0] [2, 1] ∗ bag L)
      ⊢ iprop(((eng m K c 9 [] [1, 0] [3, 2, 1, 0] [2, 1] ∗ bag L ∗ have' m c .xr 64 192 0 shZ ∗ have' m c .xr 64 192 0 shC) -∗ Kt ⟨⟩)
        -∗ run c (atBufs (k0_part7 (F := F)) c v0 v1 v2 v3 v4 v5) Kt) := by
  rw [k0_part7_eq_skeleton]
  unfold k0_part7_skel
  simp only [Prog.lift, Prog.bind_op, Prog.bind_ret, Prog.pure_eq_ret]
  iintro ⟨HE, HB⟩ Hk
  iapply (eng_recv m K 1 c 8 (R := [0]) (by decide) (by decide +kernel) rfl rfl) $$ HE
  iintro ⟨HE, H0⟩
  ihave Hc := (show recvPay m 1 c ⊢ _ from cut3 m c .xr 64 192) $$ H0
  icases Hc with ⟨H1, G0, G1⟩
  iapply (send_y m K (A := []) (i := 8) (i' := 9) 8 64 192 rfl (dev12 c) rfl rfl (by decide) rfl rfl) $$ HE H1
  iintro HE
  iapply run_ret
  iapply Hk
  isplitl [HE]; · iexact HE
  isplitl [HB]; · iexact HB
  isplitl [G0]; · iexact G0
  iexact G1

theorem part8 (c : Dev nD) (v0 v1 v2 v3 v4 v5 v6 v7 : BitVec 32) {L : List (sProp 𝕄)} (Kt : PUnit → sProp 𝕄) :
    iprop(eng m K c 9 [] [1, 0] [3, 2, 1, 0] [2, 1] ∗ bag L ∗ have' m c .xr 64 192 0 shZ ∗ have' m c .xr 64 192 0 shC)
      ⊢ iprop(((eng m K c 10 [] [7, 1, 0] [4, 3, 2, 1, 0] [2, 1] ∗ bag L ∗ recvPay m 7 c) -∗ Kt ⟨⟩)
        -∗ run c (atBufs (k0_part8 (F := F)) c v0 v1 v2 v3 v4 v5 v6 v7) Kt) := by
  rw [k0_part8_eq_skeleton]
  unfold k0_part8_skel
  simp only [Prog.lift, Prog.bind_op, Prog.bind_ret, Prog.pure_eq_ret]
  iintro ⟨HE, HB, H0, H1⟩ Hk
  iapply (send_z m K (A := []) (i := 9) (i' := 10) 9 64 192 rfl (dev13 c) rfl rfl (by decide) rfl rfl) $$ HE H0
  iintro HE
  iapply (copy_x m K (S := [3, 2, 1, 0]) (D := [2, 1]) 4 64 192 rfl (by decide) (off6 c) (by decide) (by decide) rfl) $$ HE H1
  iintro HE
  iapply (eng_recv m K 7 c 10 (R := [1, 0]) (by decide) (by decide +kernel) rfl rfl) $$ HE
  iintro ⟨HE, G0⟩
  iapply run_ret
  iapply Hk
  isplitl [HE]; · iexact HE
  isplitl [HB]; · iexact HB
  iexact G0

theorem part9 (c : Dev nD) (v0 v1 v2 v3 v4 v5 v6 : BitVec 32) {L : List (sProp 𝕄)} (Kt : _ → sProp 𝕄) :
    iprop(eng m K c 10 [] [7, 1, 0] [4, 3, 2, 1, 0] [2, 1] ∗ bag L ∗ recvPay m 7 c)
      ⊢ iprop((∀ w, (eng m K c 11 [] [6, 7, 1, 0] [13, 8, 4, 3, 2, 1, 0] [2, 1] ∗ bag (have' m c .yr 0 64 0 shY :: L)) -∗ Kt w)
        -∗ run c (atBufs (k0_part9 (F := F)) c v0 v1 v2 v3 v4 v5 v6) Kt) := by
  rw [k0_part9_eq_skeleton]
  unfold k0_part9_skel
  simp only [Prog.lift, Prog.bind_op, Prog.bind_ret, Prog.pure_eq_ret]
  iintro ⟨HE, HB, H0⟩ Hk
  ihave Hc := (show recvPay m 7 c ⊢ _ from cut2 m c .zr 0 64) $$ H0
  icases Hc with ⟨H1, H2⟩
  iapply (send_a m K (A := []) (i := 10) (i' := 11) 10 0 64 rfl (by decide) (by rw [dev14]; exact off7a c) (dev14 c) rfl rfl (by decide) rfl rfl) $$ HE H1
  iintro HE
  iapply (copy_z m K (S := [4, 3, 2, 1, 0]) (D := [2, 1]) 8 0 64 rfl (by decide) (off7 c) (by decide) (by decide) rfl) $$ HE H2
  iintro HE
  iapply (eng_recv m K 6 c 11 (R := [7, 1, 0]) (by decide) (by decide +kernel) rfl rfl) $$ HE
  iintro ⟨HE, H3⟩
  ihave Hc := (show recvPay m 6 c ⊢ _ from cut2 m c .yr 0 64) $$ H3
  icases Hc with ⟨H4, H5⟩
  ihave HB := put $$ H4 HB
  iapply (copy_y m K (S := [8, 4, 3, 2, 1, 0]) (D := [2, 1]) 13 0 64 rfl (by decide) (off8 c) (by decide) (by decide) rfl) $$ HE H5
  iintro HE
  iapply run_ret
  iapply Hk $$ %_
  isplitl [HE]; · iexact HE
  iexact HB

theorem part10 (c : Dev nD) (v0 v1 v2 v3 v4 v5 : BitVec 32) {L : List (sProp 𝕄)} (Kt : PUnit → sProp 𝕄) :
    iprop(eng m K c 11 [] [6, 7, 1, 0] [13, 8, 4, 3, 2, 1, 0] [2, 1] ∗ bag L)
      ⊢ iprop(((eng m K c 12 [] [2, 6, 7, 1, 0] [13, 8, 4, 3, 2, 1, 0] [2, 1] ∗ bag L ∗ have' m c .xr 256 256 0 shZ ∗ have' m c .xr 256 256 0 shC) -∗ Kt ⟨⟩)
        -∗ run c (atBufs (k0_part10 (F := F)) c v0 v1 v2 v3 v4 v5) Kt) := by
  rw [k0_part10_eq_skeleton]
  unfold k0_part10_skel
  simp only [Prog.lift, Prog.bind_op, Prog.bind_ret, Prog.pure_eq_ret]
  iintro ⟨HE, HB⟩ Hk
  iapply (eng_recv m K 2 c 11 (R := [6, 7, 1, 0]) (by decide) (by decide +kernel) rfl rfl) $$ HE
  iintro ⟨HE, H0⟩
  ihave Hc := (show recvPay m 2 c ⊢ _ from cut3 m c .xr 256 256) $$ H0
  icases Hc with ⟨H1, G0, G1⟩
  iapply (send_y m K (A := []) (i := 11) (i' := 12) 11 256 256 rfl (dev15 c) rfl rfl (by decide) rfl rfl) $$ HE H1
  iintro HE
  iapply run_ret
  iapply Hk
  isplitl [HE]; · iexact HE
  isplitl [HB]; · iexact HB
  isplitl [G0]; · iexact G0
  iexact G1

theorem part11 (c : Dev nD) (v0 v1 v2 v3 v4 v5 v6 v7 : BitVec 32) {L : List (sProp 𝕄)} (Kt : PUnit → sProp 𝕄) :
    iprop(eng m K c 12 [] [2, 6, 7, 1, 0] [13, 8, 4, 3, 2, 1, 0] [2, 1] ∗ bag L ∗ have' m c .xr 256 256 0 shZ ∗ have' m c .xr 256 256 0 shC)
      ⊢ iprop(((eng m K c 13 [] [9, 2, 6, 7, 1, 0] [5, 13, 8, 4, 3, 2, 1, 0] [2, 1] ∗ bag L ∗ recvPay m 9 c) -∗ Kt ⟨⟩)
        -∗ run c (atBufs (k0_part11 (F := F)) c v0 v1 v2 v3 v4 v5 v6 v7) Kt) := by
  rw [k0_part11_eq_skeleton]
  unfold k0_part11_skel
  simp only [Prog.lift, Prog.bind_op, Prog.bind_ret, Prog.pure_eq_ret]
  iintro ⟨HE, HB, H0, H1⟩ Hk
  iapply (send_z m K (A := []) (i := 12) (i' := 13) 12 256 256 rfl (dev16 c) rfl rfl (by decide) rfl rfl) $$ HE H0
  iintro HE
  iapply (copy_x m K (S := [13, 8, 4, 3, 2, 1, 0]) (D := [2, 1]) 5 256 256 rfl (by decide) (off9_0 c) (by decide) (by decide) rfl) $$ HE H1
  iintro HE
  iapply (eng_recv m K 9 c 13 (R := [2, 6, 7, 1, 0]) (by decide) (by decide +kernel) rfl rfl) $$ HE
  iintro ⟨HE, G0⟩
  iapply run_ret
  iapply Hk
  isplitl [HE]; · iexact HE
  isplitl [HB]; · iexact HB
  iexact G0

theorem part12 (c : Dev nD) (v0 v1 v2 v3 v4 v5 v6 : BitVec 32) {L : List (sProp 𝕄)} (Kt : _ → sProp 𝕄) :
    iprop(eng m K c 13 [] [9, 2, 6, 7, 1, 0] [5, 13, 8, 4, 3, 2, 1, 0] [2, 1] ∗ bag L ∗ recvPay m 9 c)
      ⊢ iprop((∀ w, (eng m K c 14 [] [8, 9, 2, 6, 7, 1, 0] [14, 9, 5, 13, 8, 4, 3, 2, 1, 0] [2, 1] ∗ bag (have' m c .yr 64 192 0 shY :: L)) -∗ Kt w)
        -∗ run c (atBufs (k0_part12 (F := F)) c v0 v1 v2 v3 v4 v5 v6) Kt) := by
  rw [k0_part12_eq_skeleton]
  unfold k0_part12_skel
  simp only [Prog.lift, Prog.bind_op, Prog.bind_ret, Prog.pure_eq_ret]
  iintro ⟨HE, HB, H0⟩ Hk
  ihave Hc := (show recvPay m 9 c ⊢ _ from cut2 m c .zr 64 192) $$ H0
  icases Hc with ⟨H1, H2⟩
  iapply (send_a m K (A := []) (i := 13) (i' := 14) 13 64 192 rfl (by decide) (by rw [dev17]; exact off10a c) (dev17 c) rfl rfl (by decide) rfl rfl) $$ HE H1
  iintro HE
  iapply (copy_z m K (S := [5, 13, 8, 4, 3, 2, 1, 0]) (D := [2, 1]) 9 64 192 rfl (by decide) (off10 c) (by decide) (by decide) rfl) $$ HE H2
  iintro HE
  iapply (eng_recv m K 8 c 14 (R := [9, 2, 6, 7, 1, 0]) (by decide) (by decide +kernel) rfl rfl) $$ HE
  iintro ⟨HE, H3⟩
  ihave Hc := (show recvPay m 8 c ⊢ _ from cut2 m c .yr 64 192) $$ H3
  icases Hc with ⟨H4, H5⟩
  ihave HB := put $$ H4 HB
  iapply (copy_y m K (S := [9, 5, 13, 8, 4, 3, 2, 1, 0]) (D := [2, 1]) 14 64 192 rfl (by decide) (off11 c) (by decide) (by decide) rfl) $$ HE H5
  iintro HE
  iapply run_ret
  iapply Hk $$ %_
  isplitl [HE]; · iexact HE
  iexact HB

theorem part13 (c : Dev nD) (v0 v1 v2 v3 v4 v5 : BitVec 32) {L : List (sProp 𝕄)} (Kt : PUnit → sProp 𝕄) :
    iprop(eng m K c 14 [] [8, 9, 2, 6, 7, 1, 0] [14, 9, 5, 13, 8, 4, 3, 2, 1, 0] [2, 1] ∗ bag L)
      ⊢ iprop(((eng m K c 15 [] [3, 8, 9, 2, 6, 7, 1, 0] [14, 9, 5, 13, 8, 4, 3, 2, 1, 0] [2, 1] ∗ bag L ∗ have' m c .xr 512 256 0 shZ ∗ have' m c .xr 512 256 0 shC) -∗ Kt ⟨⟩)
        -∗ run c (atBufs (k0_part13 (F := F)) c v0 v1 v2 v3 v4 v5) Kt) := by
  rw [k0_part13_eq_skeleton]
  unfold k0_part13_skel
  simp only [Prog.lift, Prog.bind_op, Prog.bind_ret, Prog.pure_eq_ret]
  iintro ⟨HE, HB⟩ Hk
  iapply (eng_recv m K 3 c 14 (R := [8, 9, 2, 6, 7, 1, 0]) (by decide) (by decide +kernel) rfl rfl) $$ HE
  iintro ⟨HE, H0⟩
  ihave Hc := (show recvPay m 3 c ⊢ _ from cut3 m c .xr 512 256) $$ H0
  icases Hc with ⟨H1, G0, G1⟩
  iapply (send_y m K (A := []) (i := 14) (i' := 15) 14 512 256 rfl (dev18 c) rfl rfl (by decide) rfl rfl) $$ HE H1
  iintro HE
  iapply run_ret
  iapply Hk
  isplitl [HE]; · iexact HE
  isplitl [HB]; · iexact HB
  isplitl [G0]; · iexact G0
  iexact G1

theorem part14 (c : Dev nD) (v0 v1 v2 v3 v4 v5 v6 v7 : BitVec 32) {L : List (sProp 𝕄)} (Kt : PUnit → sProp 𝕄) :
    iprop(eng m K c 15 [] [3, 8, 9, 2, 6, 7, 1, 0] [14, 9, 5, 13, 8, 4, 3, 2, 1, 0] [2, 1] ∗ bag L ∗ have' m c .xr 512 256 0 shZ ∗ have' m c .xr 512 256 0 shC)
      ⊢ iprop(((eng m K c 16 [] [12, 3, 8, 9, 2, 6, 7, 1, 0] [6, 14, 9, 5, 13, 8, 4, 3, 2, 1, 0] [2, 1] ∗ bag L ∗ recvPay m 12 c) -∗ Kt ⟨⟩)
        -∗ run c (atBufs (k0_part14 (F := F)) c v0 v1 v2 v3 v4 v5 v6 v7) Kt) := by
  rw [k0_part14_eq_skeleton]
  unfold k0_part14_skel
  simp only [Prog.lift, Prog.bind_op, Prog.bind_ret, Prog.pure_eq_ret]
  iintro ⟨HE, HB, H0, H1⟩ Hk
  iapply (send_z m K (A := []) (i := 15) (i' := 16) 15 512 256 rfl (dev19 c) rfl rfl (by decide) rfl rfl) $$ HE H0
  iintro HE
  iapply (copy_x m K (S := [14, 9, 5, 13, 8, 4, 3, 2, 1, 0]) (D := [2, 1]) 6 512 256 rfl (by decide) (off9_1 c) (by decide) (by decide) rfl) $$ HE H1
  iintro HE
  iapply (eng_recv m K 12 c 16 (R := [3, 8, 9, 2, 6, 7, 1, 0]) (by decide) (by decide +kernel) rfl rfl) $$ HE
  iintro ⟨HE, G0⟩
  iapply run_ret
  iapply Hk
  isplitl [HE]; · iexact HE
  isplitl [HB]; · iexact HB
  iexact G0

theorem part15 (c : Dev nD) (v0 v1 v2 v3 v4 v5 v6 v7 : BitVec 32) {L : List (sProp 𝕄)} (Kt : PUnit → sProp 𝕄) :
    iprop(eng m K c 16 [] [12, 3, 8, 9, 2, 6, 7, 1, 0] [6, 14, 9, 5, 13, 8, 4, 3, 2, 1, 0] [2, 1] ∗ bag L ∗ recvPay m 12 c)
      ⊢ iprop(((eng m K c 17 [] [11, 12, 3, 8, 9, 2, 6, 7, 1, 0] [10, 6, 14, 9, 5, 13, 8, 4, 3, 2, 1, 0] [2, 1] ∗ bag (have' m c .zr 344 168 0 shY :: L) ∗ recvPay m 11 c) -∗ Kt ⟨⟩)
        -∗ run c (atBufs (k0_part15 (F := F)) c v0 v1 v2 v3 v4 v5 v6 v7) Kt) := by
  rw [k0_part15_eq_skeleton]
  unfold k0_part15_skel
  simp only [Prog.lift, Prog.bind_op, Prog.bind_ret, Prog.pure_eq_ret]
  iintro ⟨HE, HB, H0⟩ Hk
  ihave Hc := (show recvPay m 12 c ⊢ _ from cut2 m c .zr 256 256) $$ H0
  icases Hc with ⟨H1, H2⟩
  ihave Hc := (cutRows m c .zr 256 88 168) $$ H1
  icases Hc with ⟨H3, H4⟩
  ihave HB := put $$ H4 HB
  iapply (send_a m K (A := []) (i := 16) (i' := 17) 16 256 88 rfl (by decide) (by rw [dev20]; exact off12 c) (dev20 c) rfl rfl (by decide) rfl rfl) $$ HE H3
  iintro HE
  iapply (copy_z m K (S := [6, 14, 9, 5, 13, 8, 4, 3, 2, 1, 0]) (D := [2, 1]) 10 256 256 rfl (by decide) (off13_0 c) (by decide) (by decide) rfl) $$ HE H2
  iintro HE
  iapply (eng_recv m K 11 c 17 (R := [12, 3, 8, 9, 2, 6, 7, 1, 0]) (by decide) (by decide +kernel) rfl rfl) $$ HE
  iintro ⟨HE, G0⟩
  iapply run_ret
  iapply Hk
  isplitl [HE]; · iexact HE
  isplitl [HB]; · iexact HB
  iexact G0

theorem part16 (c : Dev nD) (v0 v1 v2 v3 v4 v5 v6 : BitVec 32) {L : List (sProp 𝕄)} (Kt : PUnit → sProp 𝕄) :
    iprop(eng m K c 17 [] [11, 12, 3, 8, 9, 2, 6, 7, 1, 0] [10, 6, 14, 9, 5, 13, 8, 4, 3, 2, 1, 0] [2, 1] ∗ bag L ∗ recvPay m 11 c)
      ⊢ iprop(((eng m K c 18 [] [4, 11, 12, 3, 8, 9, 2, 6, 7, 1, 0] [15, 10, 6, 14, 9, 5, 13, 8, 4, 3, 2, 1, 0] [2, 1] ∗ bag (have' m c .yr 256 88 0 shY :: L) ∗ recvPay m 4 c) -∗ Kt ⟨⟩)
        -∗ run c (atBufs (k0_part16 (F := F)) c v0 v1 v2 v3 v4 v5 v6) Kt) := by
  rw [k0_part16_eq_skeleton]
  unfold k0_part16_skel
  simp only [Prog.lift, Prog.bind_op, Prog.bind_ret, Prog.pure_eq_ret]
  iintro ⟨HE, HB, H0⟩ Hk
  ihave Hc := (show recvPay m 11 c ⊢ _ from cut2 m c .yr 256 256) $$ H0
  icases Hc with ⟨H1, H2⟩
  ihave Hc := (cutRows m c .yr 256 88 168) $$ H1
  icases Hc with ⟨H3, H4⟩
  ihave HB := put $$ H3 HB
  iapply (send_b m K (A := []) (i := 17) (i' := 18) 17 344 168 rfl (by decide) (by decide) (by rw [dev21]; exact off14_0 c) (dev21 c) rfl rfl (by decide) rfl rfl) $$ HE H4
  iintro HE
  iapply (copy_y m K (S := [10, 6, 14, 9, 5, 13, 8, 4, 3, 2, 1, 0]) (D := [2, 1]) 15 256 256 rfl (by decide) (off15_0 c) (by decide) (by decide) rfl) $$ HE H2
  iintro HE
  iapply (eng_recv m K 4 c 18 (R := [11, 12, 3, 8, 9, 2, 6, 7, 1, 0]) (by decide) (by decide +kernel) rfl rfl) $$ HE
  iintro ⟨HE, G0⟩
  iapply run_ret
  iapply Hk
  isplitl [HE]; · iexact HE
  isplitl [HB]; · iexact HB
  iexact G0

theorem part17 (c : Dev nD) (v0 v1 v2 v3 v4 : BitVec 32) {L : List (sProp 𝕄)} (Kt : PUnit → sProp 𝕄) :
    iprop(eng m K c 18 [] [4, 11, 12, 3, 8, 9, 2, 6, 7, 1, 0] [15, 10, 6, 14, 9, 5, 13, 8, 4, 3, 2, 1, 0] [2, 1] ∗ bag L ∗ recvPay m 4 c)
      ⊢ iprop(((eng m K c 20 [] [4, 11, 12, 3, 8, 9, 2, 6, 7, 1, 0] [7, 15, 10, 6, 14, 9, 5, 13, 8, 4, 3, 2, 1, 0] [2, 1] ∗ bag L) -∗ Kt ⟨⟩)
        -∗ run c (atBufs (k0_part17 (F := F)) c v0 v1 v2 v3 v4) Kt) := by
  rw [k0_part17_eq_skeleton]
  unfold k0_part17_skel
  simp only [Prog.lift, Prog.bind_op, Prog.bind_ret, Prog.pure_eq_ret]
  iintro ⟨HE, HB, H0⟩ Hk
  ihave Hc := (show recvPay m 4 c ⊢ _ from cut3 m c .xr 768 256) $$ H0
  icases Hc with ⟨H1, H2, H3⟩
  iapply (send_y m K (A := []) (i := 18) (i' := 19) 18 768 256 rfl (dev22 c) rfl rfl (by decide) rfl rfl) $$ HE H1
  iintro HE
  iapply (send_z m K (A := []) (i := 19) (i' := 20) 19 768 256 rfl (dev23 c) rfl rfl (by decide) rfl rfl) $$ HE H2
  iintro HE
  iapply (copy_x m K (S := [15, 10, 6, 14, 9, 5, 13, 8, 4, 3, 2, 1, 0]) (D := [2, 1]) 7 768 256 rfl (by decide) (off9_2 c) (by decide) (by decide) rfl) $$ HE H3
  iintro HE
  iapply run_ret
  iapply Hk
  isplitl [HE]; · iexact HE
  iexact HB

theorem part18 (c : Dev nD) (v0 v1 v2 v3 v4 v5 v6 v7 : BitVec 32) {L : List (sProp 𝕄)} (Kt : PUnit → sProp 𝕄) :
    iprop(eng m K c 20 [] [4, 11, 12, 3, 8, 9, 2, 6, 7, 1, 0] [7, 15, 10, 6, 14, 9, 5, 13, 8, 4, 3, 2, 1, 0] [2, 1] ∗ bag L)
      ⊢ iprop(((eng m K c 20 [] [14, 15, 4, 11, 12, 3, 8, 9, 2, 6, 7, 1, 0] [11, 7, 15, 10, 6, 14, 9, 5, 13, 8, 4, 3, 2, 1, 0] [2, 1] ∗ bag (have' m c .zr 512 256 0 shY :: L) ∗ recvPay m 14 c) -∗ Kt ⟨⟩)
        -∗ run c (atBufs (k0_part18 (F := F)) c v0 v1 v2 v3 v4 v5 v6 v7) Kt) := by
  rw [k0_part18_eq_skeleton]
  unfold k0_part18_skel
  simp only [Prog.lift, Prog.bind_op, Prog.bind_ret, Prog.pure_eq_ret]
  iintro ⟨HE, HB⟩ Hk
  iapply (eng_recv m K 15 c 20 (R := [4, 11, 12, 3, 8, 9, 2, 6, 7, 1, 0]) (by decide) (by decide +kernel) rfl rfl) $$ HE
  iintro ⟨HE, H0⟩
  ihave Hc := (show recvPay m 15 c ⊢ _ from cut2 m c .zr 512 256) $$ H0
  icases Hc with ⟨H1, H2⟩
  ihave HB := put $$ H1 HB
  iapply (copy_z m K (S := [7, 15, 10, 6, 14, 9, 5, 13, 8, 4, 3, 2, 1, 0]) (D := [2, 1]) 11 512 256 rfl (by decide) (off13_1 c) (by decide) (by decide) rfl) $$ HE H2
  iintro HE
  iapply (eng_recv m K 14 c 20 (R := [15, 4, 11, 12, 3, 8, 9, 2, 6, 7, 1, 0]) (by decide) (by decide +kernel) rfl rfl) $$ HE
  iintro ⟨HE, G0⟩
  iapply run_ret
  iapply Hk
  isplitl [HE]; · iexact HE
  isplitl [HB]; · iexact HB
  iexact G0

theorem part19 (c : Dev nD) (v0 v1 v2 v3 v4 v5 v6 : BitVec 32) {L : List (sProp 𝕄)} (Kt : _ → sProp 𝕄) :
    iprop(eng m K c 20 [] [14, 15, 4, 11, 12, 3, 8, 9, 2, 6, 7, 1, 0] [11, 7, 15, 10, 6, 14, 9, 5, 13, 8, 4, 3, 2, 1, 0] [2, 1] ∗ bag L ∗ recvPay m 14 c)
      ⊢ iprop((∀ w, (eng m K c 21 [] [19, 14, 15, 4, 11, 12, 3, 8, 9, 2, 6, 7, 1, 0] [12, 16, 11, 7, 15, 10, 6, 14, 9, 5, 13, 8, 4, 3, 2, 1, 0] [2, 1] ∗ bag (have' m c .zr 768 256 0 shY :: have' m c .yr 680 88 0 shY :: L)) -∗ Kt w)
        -∗ run c (atBufs (k0_part19 (F := F)) c v0 v1 v2 v3 v4 v5 v6) Kt) := by
  rw [k0_part19_eq_skeleton]
  unfold k0_part19_skel
  simp only [Prog.lift, Prog.bind_op, Prog.bind_ret, Prog.pure_eq_ret]
  iintro ⟨HE, HB, H0⟩ Hk
  ihave Hc := (show recvPay m 14 c ⊢ _ from cut2 m c .yr 512 256) $$ H0
  icases Hc with ⟨H1, H2⟩
  ihave Hc := (cutRows m c .yr 512 168 88) $$ H1
  icases Hc with ⟨H3, H4⟩
  ihave HB := put $$ H4 HB
  iapply (send_b m K (A := []) (i := 20) (i' := 21) 20 512 168 rfl (by decide) (by decide) (by rw [dev24]; exact off14_1 c) (dev24 c) rfl rfl (by decide) rfl rfl) $$ HE H3
  iintro HE
  iapply (copy_y m K (S := [11, 7, 15, 10, 6, 14, 9, 5, 13, 8, 4, 3, 2, 1, 0]) (D := [2, 1]) 16 512 256 rfl (by decide) (off15_1 c) (by decide) (by decide) rfl) $$ HE H2
  iintro HE
  iapply (eng_recv m K 19 c 21 (R := [14, 15, 4, 11, 12, 3, 8, 9, 2, 6, 7, 1, 0]) (by decide) (by decide +kernel) rfl rfl) $$ HE
  iintro ⟨HE, H5⟩
  ihave Hc := (show recvPay m 19 c ⊢ _ from cut2 m c .zr 768 256) $$ H5
  icases Hc with ⟨H6, H7⟩
  ihave HB := put $$ H6 HB
  iapply (copy_z m K (S := [16, 11, 7, 15, 10, 6, 14, 9, 5, 13, 8, 4, 3, 2, 1, 0]) (D := [2, 1]) 12 768 256 rfl (by decide) (off13_2 c) (by decide) (by decide) rfl) $$ HE H7
  iintro HE
  iapply run_ret
  iapply Hk $$ %_
  isplitl [HE]; · iexact HE
  iexact HB

theorem part20 (c : Dev nD) (v0 v1 v2 v3 v4 v5 v6 v7 : BitVec 32) {L : List (sProp 𝕄)} (Kt : _ → sProp 𝕄) :
    iprop(eng m K c 21 [] [19, 14, 15, 4, 11, 12, 3, 8, 9, 2, 6, 7, 1, 0] [12, 16, 11, 7, 15, 10, 6, 14, 9, 5, 13, 8, 4, 3, 2, 1, 0] [2, 1] ∗ bag L)
      ⊢ iprop((∀ w, (eng m K c 21 [] [5, 18, 19, 14, 15, 4, 11, 12, 3, 8, 9, 2, 6, 7, 1, 0] [18, 17, 12, 16, 11, 7, 15, 10, 6, 14, 9, 5, 13, 8, 4, 3, 2, 1, 0] [0, 2, 1] ∗ bag (recvPay m 5 c :: locSrc m 0 c :: have' m c .yr 768 256 0 shY :: L)) -∗ Kt w)
        -∗ run c (atBufs (k0_part20 (F := F)) c v0 v1 v2 v3 v4 v5 v6 v7) Kt) := by
  rw [k0_part20_eq_skeleton]
  unfold k0_part20_skel
  simp only [Prog.lift, Prog.bind_op, Prog.bind_ret, Prog.pure_eq_ret]
  iintro ⟨HE, HB⟩ Hk
  iapply (eng_recv m K 18 c 21 (R := [19, 14, 15, 4, 11, 12, 3, 8, 9, 2, 6, 7, 1, 0]) (by decide) (by decide +kernel) rfl rfl) $$ HE
  iintro ⟨HE, H0⟩
  ihave Hc := (show recvPay m 18 c ⊢ _ from cut2 m c .yr 768 256) $$ H0
  icases Hc with ⟨H1, H2⟩
  ihave HB := put $$ H1 HB
  iapply (copy_y m K (S := [12, 16, 11, 7, 15, 10, 6, 14, 9, 5, 13, 8, 4, 3, 2, 1, 0]) (D := [2, 1]) 17 768 256 rfl (by decide) (off15_2 c) (by decide) (by decide) rfl) $$ HE H2
  iintro HE
  iapply (eng_copied m K 0 c 21 (S := [17, 12, 16, 11, 7, 15, 10, 6, 14, 9, 5, 13, 8, 4, 3, 2, 1, 0]) (D := [2, 1]) (by decide) (by decide) (by decide +kernel) rfl rfl) $$ HE
  iintro ⟨HE, Hd, Hs⟩
  ihave HB := put $$ Hs HB
  ihave Hd := (show locDst m 0 c ⊢ have' m c .kb 0 4096 0 fullShare from Entails.rfl) $$ Hd
  iapply (keep_out m K (S := [17, 12, 16, 11, 7, 15, 10, 6, 14, 9, 5, 13, 8, 4, 3, 2, 1, 0]) (D := [0, 2, 1]) (off16 c) (by decide) (by decide) rfl) $$ HE Hd
  iintro HE
  iapply (keep_recv m K 5 (R := [18, 19, 14, 15, 4, 11, 12, 3, 8, 9, 2, 6, 7, 1, 0]) (by decide) (by decide +kernel) rfl rfl) $$ HE HB
  iintro HE HB
  iapply run_ret
  iapply Hk $$ %_
  isplitl [HE]; · iexact HE
  iexact HB

theorem part21 (c : Dev nD) (v0 v1 v2 v3 v4 : BitVec 32) {L : List (sProp 𝕄)} (Kt : _ → sProp 𝕄) :
    iprop(eng m K c 21 [] [5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop((∀ w, (eng m K c 21 [] [16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag (recvPay m 16 c :: recvPay m 13 c :: recvPay m 10 c :: L)) -∗ Kt w)
        -∗ run c (atBufs (k0_part21 (F := F)) c v0 v1 v2 v3 v4) Kt) := by
  rw [k0_part21_eq_skeleton]
  unfold k0_part21_skel
  simp only [Prog.lift, Prog.bind_op, Prog.bind_ret, Prog.pure_eq_ret]
  iintro ⟨HE, HB⟩ Hk
  iapply (keep_recv m K 10 (R := [5, 18, 19, 14, 15, 4, 11, 12, 3, 8, 9, 2, 6, 7, 1, 0]) (by decide) (by decide +kernel) rfl rfl) $$ HE HB
  iintro HE HB
  iapply (keep_recv m K 13 (R := [10, 5, 18, 19, 14, 15, 4, 11, 12, 3, 8, 9, 2, 6, 7, 1, 0]) (by decide) (by decide +kernel) rfl rfl) $$ HE HB
  iintro HE HB
  iapply (keep_recv m K 16 (R := [13, 10, 5, 18, 19, 14, 15, 4, 11, 12, 3, 8, 9, 2, 6, 7, 1, 0]) (by decide) (by decide +kernel) rfl rfl) $$ HE HB
  iintro HE HB
  iapply run_ret
  iapply Hk $$ %_
  isplitl [HE]; · iexact HE
  iexact HB

end Cert.Exchange

end
-- ==== Proof.Entry.lean ====
/-
# Meeting the neighbours

A device offers each of its three neighbours the regions that neighbour's copies write, waits until all three have done the
same, and starts its first local copies.
-/
module

public import proofs.«01_k».proof.Proof.Parts

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 21) → ℕ)

/-! ## What a device starts with -/

/-- The places and rights of copy `t`, without the region it writes. -/
def rights (c : Dev nD) (t : Fin 21) : sProp 𝕄 :=
  iprop(atPos ER (sendCell t c) 0 ∅ 0 ∗ dutyTok ER (sendCell t c) 0 0 ∗ dutyTok ER (recvCell t (peer t c)) 0 0)

/-- A device before it has met its neighbours. -/
def ready (c : Dev nD) : sProp 𝕄 :=
  iprop(records m K ∗ levAts L lv ∗ (∃ W, owes (c : Thread nD τ) (O₀ c) W) ∗ cred (tallyAt (barCell c) () 3) ∗ atPos ER (barCell c) 0 ∅ 0
    ∗ dutyTok ER (barCell (xp c)) 0 0 ∗ dutyTok ER (barCell (yp c)) 0 1 ∗ dutyTok ER (barCell (zp c)) 0 2
    ∗ bigSep Finset.univ (fun t => landing (F := F) t c) ∗ bigSep Finset.univ (rights (F := F) c) ∗ bigSep Finset.univ (coming (F := F) c)
    ∗ bigSep Finset.univ (toCopy (F := F) c))

omit [FloatOps F] in
/-- A device's landing regions, sorted by the neighbour that writes them. -/
theorem landings_split (c : Dev nD) :
    bigSep Finset.univ (fun t => landing (F := F) t c) = iprop(barPay (xp c) 0 ∗ barPay (yp c) 1 ∗ barPay (zp c) 2) := by
  have h : bigSep Finset.univ (fun a => barPay (F := F) (flip a c) a) = bigSep Finset.univ (fun t => landing (F := F) t c) := by
    refine (bigSep_congr (Ψ := fun a => bigSep (Finset.univ.filter fun t => (tb t).ax = a) fun t => landing (F := F) t c)
      (fun a _ => by unfold barPay; rw [flip_flip])).trans ?_
    rw [axes_split (F := F) (fun t => landing t c) Finset.univ]
    simp
  rw [← h, bigSep_univ_eq_bigSepL [0, 1, 2] (by decide) (by decide)]
  rfl

omit [FloatOps F] in
/-- With the regions the neighbours offer, every copy to a neighbour can start. -/
theorem all_toSend (c : Dev nD) :
    iprop(bigSep Finset.univ (rights (F := F) c) ∗ bigSep Finset.univ fun t => landing (F := F) t (peer t c)) ⊢ bigSep Finset.univ (sendSt (F := F) c 0 []) := by
  rw [← bigSep_sep']
  refine bigSep_mono fun t _ => ?_
  show _ ⊢ sendSt c 0 [] t
  rw [show sendSt (F := F) c 0 [] t = toSend c t from if_neg (Nat.not_lt_zero _)]
  unfold rights toSend
  iintro ⟨⟨Ha, Hb, Hc⟩, Hd⟩
  isplitl [Ha]; · iexact Ha
  isplitl [Hb]; · iexact Hb
  isplitl [Hc]; · iexact Hc
  iexact Hd

/-- One unit to the barrier of the neighbour across an axis, with the regions it may write. -/
theorem offer (c p : Dev nD) (a : Fin 3) {O O' : CellTallies nD τ sig Unit} (hO : O = O' + tallyAt (barCell p) () 1) {p' : Dev nD} (hp : p' = p)
    {sb : Sem sig} (hs : sb = barS) {n : ℤ} (hn : n = 1) {W : Waits sig Unit}
    {α : Type} {k : PUnit → Prog (TpuEff nD τ sig (Elt F) Λ₀ .tc) α} {Q : α → sProp 𝕄} :
    iprop(records m K ∗ owes (c : Thread nD τ) O W ∗ dutyTok ER (barCell p) 0 a ∗ barPay p a)
      ⊢ iprop((owes (c : Thread nD τ) O' W -∗ run c (k ⟨⟩) Q) -∗ run c (.op (.semSignal (p' : Thread nD τ) sb n) k) Q) := by
  rw [hp, hs, hn]
  iintro ⟨#HR, HO, Htok, Hpay⟩ Hk
  iapply (Rounds.wp_signal 𝒱₀ ER (sched m) (c : Thread nD τ) none (dst := (p : Thread nD τ)) (κ := K (p, none)) (d := a)
    (show a ∈ (sched m).duties (barCell p) 0 by rw [duties_bar]; exact Finset.mem_univ _) ((amount_bar m p a).trans (by decide)) () O' hO) $$ [HO Htok Hpay]
  · isplitr; · iapply (inv_at m K p none); iexact HR
    isplitl [HO]; · iexact HO
    isplitl [Htok]; · iexact Htok
    isplitl [Hpay]; · iapply (show barPay (F := F) p a ⊢ (sched m).payload ((p : Thread nD τ), SemLoc.reg barS) 0 a from Entails.of_eq (payload_bar m p a).symm); iexact Hpay
    iapply (reached_at m K p none); iexact HR
  iintro HO
  iapply Hk
  iexact HO

/-- The wait for the three neighbours. -/
theorem meet (c : Dev nD) {sb : Sem sig} (hs : sb = barS) {n : ℤ} (hn : n = 3) {W : Waits sig Unit} {α : Type} {k : PUnit → Prog (TpuEff nD τ sig (Elt F) Λ₀ .tc) α} {Q : α → sProp 𝕄} :
    iprop(records m K ∗ levAts L lv ∗ owes (c : Thread nD τ) (Ow c 0) W ∗ cred (tallyAt (barCell c) () 3) ∗ atPos ER (barCell c) 0 ∅ 0)
      ⊢ iprop((((∃ W, owes (c : Thread nD τ) (Ow c 0) W) ∗ semVal (barCell c) 0 ∗ bigSep Finset.univ fun t => landing (F := F) t (peer t c)) -∗ run c (k ⟨⟩) Q)
          -∗ run c (.op (.semWait sb n) k) Q) := by
  rw [hs, hn]
  iintro ⟨#HR, #HL, HO, Hcr, Hat⟩ Hk
  iapply (Rounds.wp_wait_rest_token 𝒱₀ ER (sched m) (c : Thread nD τ) none (κ := K (c, none))
    (wpE_semWait_eq 𝒱₀ (c : Thread nD τ) none Set.univ) (Set.mem_univ _) () (O := Ow c 0) (W := W) (R := 0) (m := 0) (T := ∅)
    (show 0 + 3 = (sched m).expect (barCell c) 0 by rw [expect_bar])) $$ [Hcr HO Hat]
  · isplitr; · iapply (inv_at m K c none); iexact HR
    isplitl [Hcr]; · iexact Hcr
    isplitl [HO]; · iexact HO
    isplitr; · iapply (mayWait_Ow c (csem none) 0 (by decide +kernel)); iexact HL
    iexact Hat
  iintro ⟨HO, Hat, -, Hpay⟩
  ihave Hp := (show bigSep ((sched m).duties ((c : Thread nD τ), SemLoc.reg barS) 0 \ ∅) (fun d => (sched m).payload ((c : Thread nD τ), SemLoc.reg barS) 0 d)
    ⊢ bigSep Finset.univ (fun t => landing (F := F) t (peer t c)) from Entails.of_eq (rest_bar m c)) $$ Hpay
  imod (Rounds.cell_close ER (sched m) (Set.mem_univ (K (c, none))) (fun h => h) (R := 0 + 1) (duties_later m (barCell c))) $$ [Hat] with Hz
  · isplitr; · iapply (inv_at m K c none); iexact HR
    iexact Hat
  iapply Hk
  isplitl [HO]; · iexists _; iexact HO
  isplitl [Hz]; · iexact Hz
  iexact Hp

/-- The parts of the argument the three copies out of it read. -/
def argParts (c : Dev nD) : sProp 𝕄 := iprop(locSrc m 0 c ∗ locSrc m 1 c ∗ locSrc m 2 c)

theorem part2 (c : Dev nD) (v2 v5 v8 v10 v11 v13 v23 v31 v32 : BitVec 32) (v29 : Sems sig S_) (hb : v29.sem = barS) (Kt : PUnit → sProp 𝕄) :
    iprop(ready m K c ∗ argParts m c)
      ⊢ iprop(((eng m K c 0 [] [] [2, 1, 0] [] ∗ semVal (barCell c) 0) -∗ Kt ⟨⟩)
        -∗ run c (atBufs (k0_part2 (F := F)) c v2 v5 v8 v10 v11 v13 v23 v29 v31 v32) Kt) := by
  rw [k0_part2_eq_skeleton]
  unfold k0_part2_skel
  simp only [semSignalWord, semWaitWord, Prog.lift, Prog.bind_op, Prog.bind_ret, Prog.pure_eq_ret]
  unfold ready argParts
  iintro ⟨⟨#HR, #HL, ⟨%W, HO⟩, Hcr, Hat, Hx, Hy, Hz, Hland, Hrights, Hcome, Hcopy⟩, H0, H1, H2⟩ Hk
  ihave Hland := (Entails.of_eq (landings_split c)) $$ Hland
  icases Hland with ⟨Lx, Ly, Lz⟩
  iapply (offer m K c (xp c) 0 (O := O₀ c) (O' := Ow c 0 + tallyAt (barCell (zp c)) () 1 + tallyAt (barCell (yp c)) () 1) rfl (dev1 c) hb rfl) $$ [HO Hx Lx]
  · isplitr; · iexact HR
    isplitl [HO]; · iexact HO
    isplitl [Hx]; · iexact Hx
    iexact Lx
  iintro HO
  iapply (offer m K c (yp c) 1 (O' := Ow c 0 + tallyAt (barCell (zp c)) () 1) rfl (dev2 c) hb rfl) $$ [HO Hy Ly]
  · isplitr; · iexact HR
    isplitl [HO]; · iexact HO
    isplitl [Hy]; · iexact Hy
    iexact Ly
  iintro HO
  iapply (offer m K c (zp c) 2 (O' := Ow c 0) rfl (dev3 c) hb rfl) $$ [HO Hz Lz]
  · isplitr; · iexact HR
    isplitl [HO]; · iexact HO
    isplitl [Hz]; · iexact Hz
    iexact Lz
  iintro HO
  iapply (meet m K c hb rfl) $$ [HO Hcr Hat]
  · isplitr; · iexact HR
    isplitr; · iexact HL
    isplitl [HO]; · iexact HO
    isplitl [Hcr]; · iexact Hcr
    iexact Hat
  iintro ⟨HO, Hbar, Hland⟩
  ihave Hs := (all_toSend c) $$ [Hrights Hland]
  · isplitl [Hrights]; · iexact Hrights
    iexact Hland
  ihave HE := (show iprop(records m K ∗ levAts L lv ∗ (∃ W, owes (c : Thread nD τ) (Ow c 0) W) ∗ bigSep Finset.univ (sendSt c 0 [])
      ∗ bigSep Finset.univ (coming (F := F) c) ∗ bigSep Finset.univ (toCopy (F := F) c)) ⊢ eng m K c 0 [] [] [] [] from Entails.rfl) $$ [HO Hs Hcome Hcopy]
  · isplitr; · iexact HR
    isplitr; · iexact HL
    isplitl [HO]; · iexact HO
    isplitl [Hs]; · iexact Hs
    isplitl [Hcome]; · iexact Hcome
    iexact Hcopy
  ihave H0 := (show locSrc m 0 c ⊢ have' m c .ar 0 4096 (1024 * xc c) shY from Entails.rfl) $$ H0
  ihave H1 := (show locSrc m 1 c ⊢ have' m c .ar (1024 * q c) 1024 (1024 * (1 - xc c)) shZ from Entails.rfl) $$ H1
  ihave H2 := (show locSrc m 2 c ⊢ have' m c .ar (1024 * qd c + 680) 344 (1024 * (1 - xc c)) shC from Entails.rfl) $$ H2
  iapply (keep_in m K (S := []) (D := []) (off1 c) (by decide) (by decide) rfl) $$ HE H0
  iintro HE
  iapply (stage_own m K (S := [0]) (D := []) (off2 c) (by decide) (by decide) rfl) $$ HE H1
  iintro HE
  iapply (stage_opp m K (S := [1, 0]) (D := []) (off3 c) (by decide) (by decide) rfl) $$ HE H2
  iintro HE
  iapply run_ret
  iapply Hk
  isplitl [HE]; · iexact HE
  iexact Hbar

end Cert.Exchange

end
-- ==== Proof.Tail.lean ====
/-
# The last parts: waiting for everything under way

The last arrivals, the departures of all the copies to neighbours, and the local copies.
-/
module

public import proofs.«01_k».proof.Proof.Parts

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 21) → ℕ)

theorem part22 (c : Dev nD) (v0 v1 v2 v3 v4 : BitVec 32) {L : List (sProp 𝕄)} (Kt : PUnit → sProp 𝕄) :
    iprop(eng m K c 21 [] [16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop(((eng m K c 21 [1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag (sendPay m 1 c :: sendPay m 0 c :: recvPay m 20 c :: recvPay m 17 c :: L)) -∗ Kt ⟨⟩)
        -∗ run c (atBufs (k0_part22 (F := F)) c v0 v1 v2 v3 v4) Kt) := by
  rw [k0_part22_eq_skeleton]
  unfold k0_part22_skel
  simp only [Prog.lift, Prog.bind_op, Prog.bind_ret, Prog.pure_eq_ret]
  iintro ⟨HE, HB⟩ Hk
  iapply (keep_recv m K 17 (R := [16, 13, 10, 5, 18, 19, 14, 15, 4, 11, 12, 3, 8, 9, 2, 6, 7, 1, 0]) (by decide) (by decide +kernel) rfl rfl) $$ HE HB
  iintro HE HB
  iapply (keep_recv m K 20 (R := [17, 16, 13, 10, 5, 18, 19, 14, 15, 4, 11, 12, 3, 8, 9, 2, 6, 7, 1, 0]) (by decide) (by decide +kernel) rfl rfl) $$ HE HB
  iintro HE HB
  iapply (keep_sent m K 0 (A := []) (by decide) (by decide) (by decide +kernel) rfl rfl) $$ HE HB
  iintro HE HB
  iapply (keep_sent m K 1 (A := [0]) (by decide) (by decide) (by decide +kernel) rfl rfl) $$ HE HB
  iintro HE HB
  iapply run_ret
  iapply Hk
  isplitl [HE]; · iexact HE
  iexact HB

theorem part23 (c : Dev nD) {L : List (sProp 𝕄)} (Kt : PUnit → sProp 𝕄) :
    iprop(eng m K c 21 [1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop(((eng m K c 21 [8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag (sendPay m 8 c :: sendPay m 6 c :: sendPay m 4 c :: sendPay m 3 c :: sendPay m 2 c :: L)) -∗ Kt ⟨⟩)
        -∗ run c (atBufs (k0_part23 (F := F))) Kt) := by
  rw [k0_part23_eq_skeleton]
  unfold k0_part23_skel
  simp only [Prog.lift, Prog.bind_op, Prog.bind_ret, Prog.pure_eq_ret]
  iintro ⟨HE, HB⟩ Hk
  iapply (keep_sent m K 2 (A := [1, 0]) (by decide) (by decide) (by decide +kernel) rfl rfl) $$ HE HB
  iintro HE HB
  iapply (keep_sent m K 3 (A := [2, 1, 0]) (by decide) (by decide) (by decide +kernel) rfl rfl) $$ HE HB
  iintro HE HB
  iapply (keep_sent m K 4 (A := [3, 2, 1, 0]) (by decide) (by decide) (by decide +kernel) rfl rfl) $$ HE HB
  iintro HE HB
  iapply (keep_sent m K 6 (A := [4, 3, 2, 1, 0]) (by decide) (by decide) (by decide +kernel) rfl rfl) $$ HE HB
  iintro HE HB
  iapply (keep_sent m K 8 (A := [6, 4, 3, 2, 1, 0]) (by decide) (by decide) (by decide +kernel) rfl rfl) $$ HE HB
  iintro HE HB
  iapply run_ret
  iapply Hk
  isplitl [HE]; · iexact HE
  iexact HB

theorem part24 (c : Dev nD) {L : List (sProp 𝕄)} (Kt : PUnit → sProp 𝕄) :
    iprop(eng m K c 21 [8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop(((eng m K c 21 [9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag (sendPay m 9 c :: sendPay m 7 c :: sendPay m 18 c :: sendPay m 14 c :: sendPay m 11 c :: L)) -∗ Kt ⟨⟩)
        -∗ run c (atBufs (k0_part24 (F := F))) Kt) := by
  rw [k0_part24_eq_skeleton]
  unfold k0_part24_skel
  simp only [Prog.lift, Prog.bind_op, Prog.bind_ret, Prog.pure_eq_ret]
  iintro ⟨HE, HB⟩ Hk
  iapply (keep_sent m K 11 (A := [8, 6, 4, 3, 2, 1, 0]) (by decide) (by decide) (by decide +kernel) rfl rfl) $$ HE HB
  iintro HE HB
  iapply (keep_sent m K 14 (A := [11, 8, 6, 4, 3, 2, 1, 0]) (by decide) (by decide) (by decide +kernel) rfl rfl) $$ HE HB
  iintro HE HB
  iapply (keep_sent m K 18 (A := [14, 11, 8, 6, 4, 3, 2, 1, 0]) (by decide) (by decide) (by decide +kernel) rfl rfl) $$ HE HB
  iintro HE HB
  iapply (keep_sent m K 7 (A := [18, 14, 11, 8, 6, 4, 3, 2, 1, 0]) (by decide) (by decide) (by decide +kernel) rfl rfl) $$ HE HB
  iintro HE HB
  iapply (keep_sent m K 9 (A := [7, 18, 14, 11, 8, 6, 4, 3, 2, 1, 0]) (by decide) (by decide) (by decide +kernel) rfl rfl) $$ HE HB
  iintro HE HB
  iapply run_ret
  iapply Hk
  isplitl [HE]; · iexact HE
  iexact HB

theorem part25 (c : Dev nD) {L : List (sProp 𝕄)} (Kt : PUnit → sProp 𝕄) :
    iprop(eng m K c 21 [9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop(((eng m K c 21 [13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag (sendPay m 13 c :: sendPay m 10 c :: sendPay m 19 c :: sendPay m 15 c :: sendPay m 12 c :: L)) -∗ Kt ⟨⟩)
        -∗ run c (atBufs (k0_part25 (F := F)) c) Kt) := by
  rw [k0_part25_eq_skeleton]
  unfold k0_part25_skel
  simp only [Prog.lift, Prog.bind_op, Prog.bind_ret, Prog.pure_eq_ret]
  iintro ⟨HE, HB⟩ Hk
  iapply (keep_sent m K 12 (A := [9, 7, 18, 14, 11, 8, 6, 4, 3, 2, 1, 0]) (by decide) (by decide) (by decide +kernel) rfl rfl) $$ HE HB
  iintro HE HB
  iapply (keep_sent m K 15 (A := [12, 9, 7, 18, 14, 11, 8, 6, 4, 3, 2, 1, 0]) (by decide) (by decide) (by decide +kernel) rfl rfl) $$ HE HB
  iintro HE HB
  iapply (keep_sent m K 19 (A := [15, 12, 9, 7, 18, 14, 11, 8, 6, 4, 3, 2, 1, 0]) (by decide) (by decide) (by decide +kernel) rfl rfl) $$ HE HB
  iintro HE HB
  iapply (keep_sent m K 10 (A := [19, 15, 12, 9, 7, 18, 14, 11, 8, 6, 4, 3, 2, 1, 0]) (by decide) (by decide) (by decide +kernel) rfl rfl) $$ HE HB
  iintro HE HB
  iapply (keep_sent m K 13 (A := [10, 19, 15, 12, 9, 7, 18, 14, 11, 8, 6, 4, 3, 2, 1, 0]) (by decide) (by decide) (by decide +kernel) rfl rfl) $$ HE HB
  iintro HE HB
  iapply run_ret
  iapply Hk
  isplitl [HE]; · iexact HE
  iexact HB

theorem part26 (c : Dev nD) {L : List (sProp 𝕄)} (Kt : PUnit → sProp 𝕄) :
    iprop(eng m K c 21 [13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [0, 2, 1] ∗ bag L)
      ⊢ iprop(((eng m K c 21 [5, 20, 17, 16, 13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [4, 3, 0, 2, 1] ∗ bag (locDst m 4 c :: locSrc m 4 c :: locDst m 3 c :: locSrc m 3 c :: sendPay m 5 c :: sendPay m 20 c :: sendPay m 17 c :: sendPay m 16 c :: L)) -∗ Kt ⟨⟩)
        -∗ run c (atBufs (k0_part26 (F := F)) c) Kt) := by
  rw [k0_part26_eq_skeleton]
  unfold k0_part26_skel
  simp only [Prog.lift, Prog.bind_op, Prog.bind_ret, Prog.pure_eq_ret]
  iintro ⟨HE, HB⟩ Hk
  iapply (keep_sent m K 16 (A := [13, 10, 19, 15, 12, 9, 7, 18, 14, 11, 8, 6, 4, 3, 2, 1, 0]) (by decide) (by decide) (by decide +kernel) rfl rfl) $$ HE HB
  iintro HE HB
  iapply (keep_sent m K 17 (A := [16, 13, 10, 19, 15, 12, 9, 7, 18, 14, 11, 8, 6, 4, 3, 2, 1, 0]) (by decide) (by decide) (by decide +kernel) rfl rfl) $$ HE HB
  iintro HE HB
  iapply (keep_sent m K 20 (A := [17, 16, 13, 10, 19, 15, 12, 9, 7, 18, 14, 11, 8, 6, 4, 3, 2, 1, 0]) (by decide) (by decide) (by decide +kernel) rfl rfl) $$ HE HB
  iintro HE HB
  iapply (keep_sent m K 5 (A := [20, 17, 16, 13, 10, 19, 15, 12, 9, 7, 18, 14, 11, 8, 6, 4, 3, 2, 1, 0]) (by decide) (by decide) (by decide +kernel) rfl rfl) $$ HE HB
  iintro HE HB
  iapply (keep_copied m K 3 (S := [18, 17, 12, 16, 11, 7, 15, 10, 6, 14, 9, 5, 13, 8, 4, 3, 2, 1, 0]) (D := [0, 2, 1]) (by decide) (by decide) (by decide +kernel) rfl rfl) $$ HE HB
  iintro HE HB
  iapply (keep_copied m K 4 (S := [18, 17, 12, 16, 11, 7, 15, 10, 6, 14, 9, 5, 13, 8, 4, 3, 2, 1, 0]) (D := [3, 0, 2, 1]) (by decide) (by decide) (by decide +kernel) rfl rfl) $$ HE HB
  iintro HE HB
  iapply run_ret
  iapply Hk
  isplitl [HE]; · iexact HE
  iexact HB

theorem part27 (c : Dev nD) {L : List (sProp 𝕄)} (Kt : PUnit → sProp 𝕄) :
    iprop(eng m K c 21 [5, 20, 17, 16, 13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [4, 3, 0, 2, 1] ∗ bag L)
      ⊢ iprop(((eng m K c 21 [5, 20, 17, 16, 13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [6, 14, 9, 5, 13, 8, 4, 3, 0, 2, 1] ∗ bag (locDst m 6 c :: locSrc m 6 c :: locDst m 14 c :: locSrc m 14 c :: locDst m 9 c :: locSrc m 9 c :: locDst m 5 c :: locSrc m 5 c :: locDst m 13 c :: locSrc m 13 c :: locDst m 8 c :: locSrc m 8 c :: L)) -∗ Kt ⟨⟩)
        -∗ run c (atBufs (k0_part27 (F := F)) c) Kt) := by
  rw [k0_part27_eq_skeleton]
  unfold k0_part27_skel
  simp only [Prog.lift, Prog.bind_op, Prog.bind_ret, Prog.pure_eq_ret]
  iintro ⟨HE, HB⟩ Hk
  iapply (keep_copied m K 8 (S := [18, 17, 12, 16, 11, 7, 15, 10, 6, 14, 9, 5, 13, 8, 4, 3, 2, 1, 0]) (D := [4, 3, 0, 2, 1]) (by decide) (by decide) (by decide +kernel) rfl rfl) $$ HE HB
  iintro HE HB
  iapply (keep_copied m K 13 (S := [18, 17, 12, 16, 11, 7, 15, 10, 6, 14, 9, 5, 13, 8, 4, 3, 2, 1, 0]) (D := [8, 4, 3, 0, 2, 1]) (by decide) (by decide) (by decide +kernel) rfl rfl) $$ HE HB
  iintro HE HB
  iapply (keep_copied m K 5 (S := [18, 17, 12, 16, 11, 7, 15, 10, 6, 14, 9, 5, 13, 8, 4, 3, 2, 1, 0]) (D := [13, 8, 4, 3, 0, 2, 1]) (by decide) (by decide) (by decide +kernel) rfl rfl) $$ HE HB
  iintro HE HB
  iapply (keep_copied m K 9 (S := [18, 17, 12, 16, 11, 7, 15, 10, 6, 14, 9, 5, 13, 8, 4, 3, 2, 1, 0]) (D := [5, 13, 8, 4, 3, 0, 2, 1]) (by decide) (by decide) (by decide +kernel) rfl rfl) $$ HE HB
  iintro HE HB
  iapply (keep_copied m K 14 (S := [18, 17, 12, 16, 11, 7, 15, 10, 6, 14, 9, 5, 13, 8, 4, 3, 2, 1, 0]) (D := [9, 5, 13, 8, 4, 3, 0, 2, 1]) (by decide) (by decide) (by decide +kernel) rfl rfl) $$ HE HB
  iintro HE HB
  iapply (keep_copied m K 6 (S := [18, 17, 12, 16, 11, 7, 15, 10, 6, 14, 9, 5, 13, 8, 4, 3, 2, 1, 0]) (D := [14, 9, 5, 13, 8, 4, 3, 0, 2, 1]) (by decide) (by decide) (by decide +kernel) rfl rfl) $$ HE HB
  iintro HE HB
  iapply run_ret
  iapply Hk
  isplitl [HE]; · iexact HE
  iexact HB

end Cert.Exchange

end
-- ==== Proof.Run.lean ====
/-
# The whole run of a device

The parts, one after the other: from a device about to meet its neighbours, with its argument, to one with nothing under way.
-/
module

public import proofs.«01_k».proof.Proof.Entry
public import proofs.«01_k».proof.Proof.Tail

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 21) → ℕ)

/-- One piece of a program after another. -/
theorem run_bind (c : Dev nD) {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := by
  show wp _ _ _ _ _ ⊢ wp _ _ _ _ _
  rw [wp_bind]

/-- Asking which device this is. -/
theorem run_dev (c : Dev nD) {α : Type} {k : Dev nD → Prog (TpuEff nD τ sig (Elt F) Λ₀ .tc) α} {Q : α → sProp 𝕄} :
    run c (k c) Q ⊢ run c (.op .deviceId k) Q := by
  show wp _ _ _ _ _ ⊢ wp _ _ _ _ _
  rw [wp_deviceId]

/-- What has come back when part 28 ends, the latest first. -/
def gains (c : Dev nD) : List (sProp 𝕄) :=
  [locDst m 11 c, locSrc m 11 c, locDst m 7 c, locSrc m 7 c, locDst m 15 c, locSrc m 15 c, locDst m 10 c,
    locSrc m 10 c, locDst m 6 c, locSrc m 6 c, locDst m 14 c, locSrc m 14 c, locDst m 9 c, locSrc m 9 c,
    locDst m 5 c, locSrc m 5 c, locDst m 13 c, locSrc m 13 c, locDst m 8 c, locSrc m 8 c, locDst m 4 c,
    locSrc m 4 c, locDst m 3 c, locSrc m 3 c, sendPay m 5 c, sendPay m 20 c, sendPay m 17 c, sendPay m 16 c,
    sendPay m 13 c, sendPay m 10 c, sendPay m 19 c, sendPay m 15 c, sendPay m 12 c, sendPay m 9 c, sendPay m 7 c,
    sendPay m 18 c, sendPay m 14 c, sendPay m 11 c, sendPay m 8 c, sendPay m 6 c, sendPay m 4 c, sendPay m 3 c,
    sendPay m 2 c, sendPay m 1 c, sendPay m 0 c, recvPay m 20 c, recvPay m 17 c, recvPay m 16 c, recvPay m 13 c,
    recvPay m 10 c, recvPay m 5 c, locSrc m 0 c, have' m c .yr 768 256 0 shY, have' m c .zr 768 256 0 shY,
    have' m c .yr 680 88 0 shY, have' m c .zr 512 256 0 shY, have' m c .yr 256 88 0 shY,
    have' m c .zr 344 168 0 shY, have' m c .yr 64 192 0 shY, have' m c .yr 0 64 0 shY, locSrc m 2 c, locSrc m 1 c]

/-- What has come back at the end. -/
def allGains (c : Dev nD) : List (sProp 𝕄) :=
  locDst m 18 c :: locSrc m 18 c :: locDst m 17 c :: locSrc m 17 c :: locDst m 12 c :: locSrc m 12 c :: locDst m 16 c ::
    locSrc m 16 c :: gains m c

theorem part1 (c : Dev nD) (Kt : _ → sProp 𝕄) :
    (iprop(∀ v2 v5 v8 v9 v10 v11 v13 v16 v19 v23 v26 v28 v29 v31 v32, ⌜(v29 : Sems sig S_).sem = barS⌝ -∗ Kt ⟨c, v2, v5, v8, v9, v10, v11, v13, v16, v19, v23, v26, v28, v29, v31, v32⟩) : sProp 𝕄)
      ⊢ run c (atBufs (k0_part1 (F := F))) Kt := by
  rw [k0_part1_eq_skeleton]
  unfold k0_part1_skel
  simp only [Prog.lift, Prog.bind_op, Prog.bind_ret, Prog.pure_eq_ret]
  iintro Hk
  iapply run_dev
  iapply run_ret
  iapply Hk $$ %_ %_ %_ %_ %_ %_ %_ %_ %_ %_ %_ %_ %_ %_ %_
  ipureintro
  rfl

theorem part28 (c : Dev nD) (Kt : Dev nD → sProp 𝕄) :
    iprop(ready m K c ∗ argParts m c)
      ⊢ iprop(((eng m K c 21 [5, 20, 17, 16, 13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [11, 7, 15, 10, 6, 14, 9, 5, 13, 8, 4, 3, 0, 2, 1] ∗ bag (gains m c) ∗ semVal (barCell c) 0) -∗ Kt c)
        -∗ run c (atBufs (k0_part28 (F := F))) Kt) := by
  rw [k0_part28_eq_skeleton]
  unfold k0_part28_skel
  iintro ⟨Hr, Ha⟩ Hk
  iapply run_bind
  iapply (part1 c)
  iintro %v2 %v5 %v8 %v9 %v10 %v11 %v13 %v16 %v19 %v23 %v26 %v28 %v29 %v31 %v32 %hb
  iapply run_bind
  iapply (part2 m K c _ _ _ _ _ _ _ _ _ _ hb) $$ [Hr Ha]
  · isplitl [Hr]; · iexact Hr
    iexact Ha
  iintro ⟨HE, Hbar⟩
  ihave HB := (show (iprop(emp) : sProp 𝕄) ⊢ bag [] from Entails.rfl) $$ []
  · iempintro
  iapply run_bind
  iapply (part3 m K c) $$ [HE HB]
  · isplitl [HE]; · iexact HE
    iexact HB
  iintro %w ⟨HE, HB, G0, G1, G2⟩
  iapply run_bind
  iapply (part4 m K c) $$ [HE HB G0 G1]
  · isplitl [HE]; · iexact HE
    isplitl [HB]; · iexact HB
    isplitl [G0]; · iexact G0
    iexact G1
  iintro ⟨HE, HB⟩
  iapply run_bind
  iapply (part5 m K c) $$ [HE HB G2]
  · isplitl [HE]; · iexact HE
    isplitl [HB]; · iexact HB
    iexact G2
  iintro ⟨HE, HB, G0⟩
  iapply run_bind
  iapply (part6 m K c) $$ [HE HB G0]
  · isplitl [HE]; · iexact HE
    isplitl [HB]; · iexact HB
    iexact G0
  iintro ⟨HE, HB⟩
  iapply run_bind
  iapply (part7 m K c) $$ [HE HB]
  · isplitl [HE]; · iexact HE
    iexact HB
  iintro ⟨HE, HB, G0, G1⟩
  iapply run_bind
  iapply (part8 m K c) $$ [HE HB G0 G1]
  · isplitl [HE]; · iexact HE
    isplitl [HB]; · iexact HB
    isplitl [G0]; · iexact G0
    iexact G1
  iintro ⟨HE, HB, G0⟩
  iapply run_bind
  iapply (part9 m K c) $$ [HE HB G0]
  · isplitl [HE]; · iexact HE
    isplitl [HB]; · iexact HB
    iexact G0
  iintro %w ⟨HE, HB⟩
  iapply run_bind
  iapply (part10 m K c) $$ [HE HB]
  · isplitl [HE]; · iexact HE
    iexact HB
  iintro ⟨HE, HB, G0, G1⟩
  iapply run_bind
  iapply (part11 m K c) $$ [HE HB G0 G1]
  · isplitl [HE]; · iexact HE
    isplitl [HB]; · iexact HB
    isplitl [G0]; · iexact G0
    iexact G1
  iintro ⟨HE, HB, G0⟩
  iapply run_bind
  iapply (part12 m K c) $$ [HE HB G0]
  · isplitl [HE]; · iexact HE
    isplitl [HB]; · iexact HB
    iexact G0
  iintro %w ⟨HE, HB⟩
  iapply run_bind
  iapply (part13 m K c) $$ [HE HB]
  · isplitl [HE]; · iexact HE
    iexact HB
  iintro ⟨HE, HB, G0, G1⟩
  iapply run_bind
  iapply (part14 m K c) $$ [HE HB G0 G1]
  · isplitl [HE]; · iexact HE
    isplitl [HB]; · iexact HB
    isplitl [G0]; · iexact G0
    iexact G1
  iintro ⟨HE, HB, G0⟩
  iapply run_bind
  iapply (part15 m K c) $$ [HE HB G0]
  · isplitl [HE]; · iexact HE
    isplitl [HB]; · iexact HB
    iexact G0
  iintro ⟨HE, HB, G0⟩
  iapply run_bind
  iapply (part16 m K c) $$ [HE HB G0]
  · isplitl [HE]; · iexact HE
    isplitl [HB]; · iexact HB
    iexact G0
  iintro ⟨HE, HB, G0⟩
  iapply run_bind
  iapply (part17 m K c) $$ [HE HB G0]
  · isplitl [HE]; · iexact HE
    isplitl [HB]; · iexact HB
    iexact G0
  iintro ⟨HE, HB⟩
  iapply run_bind
  iapply (part18 m K c) $$ [HE HB]
  · isplitl [HE]; · iexact HE
    iexact HB
  iintro ⟨HE, HB, G0⟩
  iapply run_bind
  iapply (part19 m K c) $$ [HE HB G0]
  · isplitl [HE]; · iexact HE
    isplitl [HB]; · iexact HB
    iexact G0
  iintro %w ⟨HE, HB⟩
  iapply run_bind
  iapply (part20 m K c) $$ [HE HB]
  · isplitl [HE]; · iexact HE
    iexact HB
  iintro %w ⟨HE, HB⟩
  iapply run_bind
  iapply (part21 m K c) $$ [HE HB]
  · isplitl [HE]; · iexact HE
    iexact HB
  iintro %w ⟨HE, HB⟩
  iapply run_bind
  iapply (part22 m K c) $$ [HE HB]
  · isplitl [HE]; · iexact HE
    iexact HB
  iintro ⟨HE, HB⟩
  iapply run_bind
  iapply (part23 m K c) $$ [HE HB]
  · isplitl [HE]; · iexact HE
    iexact HB
  iintro ⟨HE, HB⟩
  iapply run_bind
  iapply (part24 m K c) $$ [HE HB]
  · isplitl [HE]; · iexact HE
    iexact HB
  iintro ⟨HE, HB⟩
  iapply run_bind
  iapply (part25 m K c) $$ [HE HB]
  · isplitl [HE]; · iexact HE
    iexact HB
  iintro ⟨HE, HB⟩
  iapply run_bind
  iapply (part26 m K c) $$ [HE HB]
  · isplitl [HE]; · iexact HE
    iexact HB
  iintro ⟨HE, HB⟩
  iapply run_bind
  iapply (part27 m K c) $$ [HE HB]
  · isplitl [HE]; · iexact HE
    iexact HB
  iintro ⟨HE, HB⟩
  simp only [Prog.lift, Prog.bind_op, Prog.bind_ret, Prog.pure_eq_ret]
  iapply (keep_copied m K 10 (S := [18, 17, 12, 16, 11, 7, 15, 10, 6, 14, 9, 5, 13, 8, 4, 3, 2, 1, 0]) (D := [6, 14, 9, 5, 13, 8, 4, 3, 0, 2, 1]) (by decide) (by decide) (by decide +kernel) rfl rfl) $$ HE HB
  iintro HE HB
  iapply (keep_copied m K 15 (S := [18, 17, 12, 16, 11, 7, 15, 10, 6, 14, 9, 5, 13, 8, 4, 3, 2, 1, 0]) (D := [10, 6, 14, 9, 5, 13, 8, 4, 3, 0, 2, 1]) (by decide) (by decide) (by decide +kernel) rfl rfl) $$ HE HB
  iintro HE HB
  iapply (keep_copied m K 7 (S := [18, 17, 12, 16, 11, 7, 15, 10, 6, 14, 9, 5, 13, 8, 4, 3, 2, 1, 0]) (D := [15, 10, 6, 14, 9, 5, 13, 8, 4, 3, 0, 2, 1]) (by decide) (by decide) (by decide +kernel) rfl rfl) $$ HE HB
  iintro HE HB
  iapply (keep_copied m K 11 (S := [18, 17, 12, 16, 11, 7, 15, 10, 6, 14, 9, 5, 13, 8, 4, 3, 2, 1, 0]) (D := [7, 15, 10, 6, 14, 9, 5, 13, 8, 4, 3, 0, 2, 1]) (by decide) (by decide) (by decide +kernel) rfl rfl) $$ HE HB
  iintro HE HB
  iapply run_ret
  iapply Hk
  isplitl [HE]; · iexact HE
  isplitl [HB]; · iexact HB
  iexact Hbar

/-- A device's whole run. -/
theorem whole (c : Dev nD) (Kt : PUnit → sProp 𝕄) :
    iprop(ready m K c ∗ argParts m c)
      ⊢ iprop(((eng m K c 21 [5, 20, 17, 16, 13, 10, 19, 15, 12, 9, 7, 18, 14, 11, 8, 6, 4, 3, 2, 1, 0] [20, 17, 16, 13, 10, 5, 18, 19, 14, 15, 4, 11, 12, 3, 8, 9, 2, 6, 7, 1, 0] [18, 17, 12, 16, 11, 7, 15, 10, 6, 14, 9, 5, 13, 8, 4, 3, 2, 1, 0] [18, 17, 12, 16, 11, 7, 15, 10, 6, 14, 9, 5, 13, 8, 4, 3, 0, 2, 1] ∗ bag (allGains m c) ∗ semVal (barCell c) 0) -∗ Kt ⟨⟩)
        -∗ run c (atBufs (cc0_body (F := F))) Kt) := by
  rw [cc0_body_eq_skeleton]
  unfold cc0_body_skel
  iintro Hr Hk
  iapply run_bind
  iapply (part28 m K c) $$ Hr
  iintro ⟨HE, HB, Hbar⟩
  simp only [Prog.lift, Prog.bind_op, Prog.bind_ret, Prog.pure_eq_ret]
  iapply (keep_copied m K 16 (S := [18, 17, 12, 16, 11, 7, 15, 10, 6, 14, 9, 5, 13, 8, 4, 3, 2, 1, 0]) (D := [11, 7, 15, 10, 6, 14, 9, 5, 13, 8, 4, 3, 0, 2, 1]) (by decide) (by decide) (by decide +kernel) rfl rfl) $$ HE HB
  iintro HE HB
  iapply (keep_copied m K 12 (S := [18, 17, 12, 16, 11, 7, 15, 10, 6, 14, 9, 5, 13, 8, 4, 3, 2, 1, 0]) (D := [16, 11, 7, 15, 10, 6, 14, 9, 5, 13, 8, 4, 3, 0, 2, 1]) (by decide) (by decide) (by decide +kernel) rfl rfl) $$ HE HB
  iintro HE HB
  iapply (keep_copied m K 17 (S := [18, 17, 12, 16, 11, 7, 15, 10, 6, 14, 9, 5, 13, 8, 4, 3, 2, 1, 0]) (D := [12, 16, 11, 7, 15, 10, 6, 14, 9, 5, 13, 8, 4, 3, 0, 2, 1]) (by decide) (by decide) (by decide +kernel) rfl rfl) $$ HE HB
  iintro HE HB
  iapply (keep_copied m K 18 (S := [18, 17, 12, 16, 11, 7, 15, 10, 6, 14, 9, 5, 13, 8, 4, 3, 2, 1, 0]) (D := [17, 12, 16, 11, 7, 15, 10, 6, 14, 9, 5, 13, 8, 4, 3, 0, 2, 1]) (by decide) (by decide) (by decide +kernel) rfl rfl) $$ HE HB
  iintro HE HB
  iapply run_ret
  iapply Hk
  isplitl [HE]; · iexact HE
  isplitl [HB]; · iexact HB
  iexact Hbar

end Cert.Exchange

end
-- ==== Proof.Memory.lean ====
/-
# A device's memory, before and after

Before the run a device's buffers are cut into the regions the copies write and the parts of the argument they read; after it
the regions read and written make up the buffers again, and the result holds what it is to hold.
-/
module

public import proofs.«01_k».proof.Proof.Run

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Before -/

/-- A whole buffer at any contents. -/
def anyBuf (c : Dev nD) (b : Ref sig .tc) : sProp 𝕄 := iprop(∃ f : Buf (Elt F) ((c : Thread nD τ).loc b), (c : Thread nD τ).loc b ↦{fullShare} f)

/-- What no copy out of the argument reads. -/
def argRest (c : Dev nD) : sProp 𝕄 :=
  iprop(others c 0 4096 (1024 * xc c) shY (val m c .ar) ∗ others c (1024 * q c) 1024 (1024 * (1 - xc c)) shZ (val m c .ar)
    ∗ others c (1024 * qd c + 680) 344 (1024 * (1 - xc c)) shC (val m c .ar))

/-- The argument, cut for its three readers. -/
theorem arg_eq (c : Dev nD) :
    ((c : Thread nD τ).loc main_arg0 ↦{fullShare} m ((c : Thread nD τ).loc main_arg0) : sProp 𝕄) = iprop(argParts m c ∗ argRest m c) := by
  refine Eq.trans ?_ (arg_cut c (val m c .ar) 0 4096 (1024 * xc c) (1024 * q c) 1024 (1024 * (1 - xc c)) (1024 * qd c + 680) 344 (1024 * (1 - xc c)))
  rw [val_ar]

/-- A family listed. -/
theorem listed {I : Type} (i j : I) (l : List I) (Φ : I → sProp 𝕄) : bigSepL (i :: j :: l) Φ = iprop(Φ i ∗ bigSepL (j :: l) Φ) := rfl

theorem free_of (c : Dev nD) (b : Bf) (lo n : ℕ) (f : (ref b).ty.Contents (Elt F)) (A : sProp 𝕄) (hA : A = free c b lo n) : pts c b lo n 0 fullShare f ⊢ A := by
  subst hA
  unfold free
  iintro H
  iexists f
  iexact H

/-- A quarter cut into five regions to write; the opposite quarter of the result into six. -/
theorem free5 (c : Dev nD) (b : Bf) (lo : ℕ) (f : (ref b).ty.Contents (Elt F)) (A B C D E : sProp 𝕄) (hA : A = free c b lo 64) (hB : B = free c b (lo + 64) 192)
    (hC : C = free c b (lo + 256) 256) (hD : D = free c b (lo + 512) 256) (hE : E = free c b (lo + 768) 256) :
    pts c b lo 1024 0 fullShare f ⊢ iprop(A ∗ B ∗ C ∗ D ∗ E) := by
  rw [pts_chunks]
  exact BIClass.sep_mono (free_of _ _ _ _ _ _ hA) (BIClass.sep_mono (free_of _ _ _ _ _ _ hB) (BIClass.sep_mono (free_of _ _ _ _ _ _ hC) (BIClass.sep_mono (free_of _ _ _ _ _ _ hD) (free_of _ _ _ _ _ _ hE))))
theorem free6 (c : Dev nD) (b : Bf) (lo : ℕ) (f : (ref b).ty.Contents (Elt F)) (A B C D E G : sProp 𝕄) (hA : A = free c b lo 64) (hB : B = free c b (lo + 64) 192)
    (hC : C = free c b (lo + 256) 88) (hD : D = free c b (lo + 344) 168) (hE : E = free c b (lo + 512) 168) (hG : G = free c b (lo + 680) 344) :
    pts c b lo 1024 0 fullShare f ⊢ iprop(A ∗ B ∗ C ∗ D ∗ E ∗ G) := by
  rw [pts_sixths]
  exact BIClass.sep_mono (free_of _ _ _ _ _ _ hA) (BIClass.sep_mono (free_of _ _ _ _ _ _ hB) (BIClass.sep_mono (free_of _ _ _ _ _ _ hC) (BIClass.sep_mono (free_of _ _ _ _ _ _ hD)
    (BIClass.sep_mono (free_of _ _ _ _ _ _ hE) (free_of _ _ _ _ _ _ hG)))))

theorem any_pts (c : Dev nD) (b : Bf) (hb : b ≠ .ar) : anyBuf (F := F) c (ref b) ⊢ iprop(∃ f, pts c b 0 (rows b) 0 fullShare f) := by
  unfold anyBuf
  iintro ⟨%f, H⟩
  iexists f
  iapply (Entails.of_eq (pts_whole c b hb fullShare f).symm)
  iexact H

theorem pts_any (c : Dev nD) (b : Bf) (hb : b ≠ .ar) (A : sProp 𝕄) (hA : A = have' m c b 0 (rows b) 0 fullShare) : A ⊢ anyBuf c (ref b) := by
  subst hA
  unfold anyBuf have'
  iintro H
  iexists (val m c b)
  iapply (Entails.of_eq (pts_whole c b hb fullShare (val m c b)))
  iexact H

/-- The scratch buffers, at any contents. -/
def scratch (c : Dev nD) : sProp 𝕄 :=
  iprop(anyBuf c cc0_scratch0 ∗ anyBuf c cc0_scratch1 ∗ anyBuf c cc0_scratch2 ∗ anyBuf c cc0_scratch3 ∗ anyBuf c cc0_scratch4)

/-- Every region a copy is to write, cut from the buffers. -/
theorem cut_all (c : Dev nD) :
    iprop(anyBuf (F := F) c main_v1 ∗ scratch c)
      ⊢ iprop(bigSep Finset.univ (fun t => landing (F := F) t c) ∗ bigSep Finset.univ (fun l => locFree (F := F) l c)) := by
  rw [bigSep_univ_eq_bigSepL [0, 1, 2, 3, 4, 6, 8, 11, 14, 18, 7, 9, 12, 15, 19, 10, 13, 16, 17, 20, 5] (by decide +kernel) (by decide +kernel),
    bigSep_univ_eq_bigSepL [0, 1, 2, 3, 4, 5, 6, 7, 13, 14, 15, 16, 17, 8, 9, 10, 11, 12, 18] (by decide +kernel) (by decide +kernel)]
  simp only [listed, bigSepL_singleton]
  unfold scratch
  iintro ⟨Ho, Hs, Hx, Hy, Hz, Hk⟩
  ihave Ho := (any_pts c .ou (by decide)) $$ Ho
  ihave Hs := (any_pts c .sb (by decide)) $$ Hs
  ihave Hx := (any_pts c .xr (by decide)) $$ Hx
  ihave Hy := (any_pts c .yr (by decide)) $$ Hy
  ihave Hz := (any_pts c .zr (by decide)) $$ Hz
  ihave Hk := (any_pts c .kb (by decide)) $$ Hk
  icases Ho with ⟨%fo, Ho⟩
  icases Hs with ⟨%fs, Hs⟩
  icases Hx with ⟨%fx, Hx⟩
  icases Hy with ⟨%fy, Hy⟩
  icases Hz with ⟨%fz, Hz⟩
  icases Hk with ⟨%fk, Hk⟩
  ihave Ho := (Entails.of_eq (pts_result c fullShare fo)) $$ Ho
  icases Ho with ⟨Hown, Hq, Hqy, Hqz, Hopp⟩
  ihave Hs := (show pts c .sb 0 1368 0 fullShare fs ⊢ _ from Entails.of_eq (pts_rows c .sb 0 1024 344 0 fullShare fs)) $$ Hs
  icases Hs with ⟨Hs1, Hs2⟩
  ihave Hx := (free5 c .xr 0 fx (landing 0 c) (landing 1 c) (landing 2 c) (landing 3 c) (landing 4 c) rfl rfl rfl rfl rfl) $$ Hx
  ihave Hy := (free5 c .yr 0 fy (landing 6 c) (landing 8 c) (landing 11 c) (landing 14 c) (landing 18 c) rfl rfl rfl rfl rfl) $$ Hy
  ihave Hz := (free5 c .zr 0 fz (landing 7 c) (landing 9 c) (landing 12 c) (landing 15 c) (landing 19 c) rfl rfl rfl rfl rfl) $$ Hz
  ihave Hq := (free5 c .ou (quart c (q c)) fo (locFree 3 c) (locFree 4 c) (locFree 5 c) (locFree 6 c) (locFree 7 c) rfl rfl rfl rfl rfl) $$ Hq
  ihave Hqy := (free5 c .ou (quart c (q (yp c))) fo (locFree 13 c) (locFree 14 c) (locFree 15 c) (locFree 16 c) (locFree 17 c) rfl rfl rfl rfl rfl) $$ Hqy
  ihave Hqz := (free5 c .ou (quart c (q (zp c))) fo (locFree 8 c) (locFree 9 c) (locFree 10 c) (locFree 11 c) (locFree 12 c) rfl rfl rfl rfl rfl) $$ Hqz
  ihave Hopp := (free6 c .ou (oppRow c) fo (landing 10 c) (landing 13 c) (landing 16 c) (landing 17 c) (landing 20 c) (landing 5 c) rfl rfl rfl rfl rfl rfl) $$ Hopp
  icases Hx with ⟨x0, x1, x2, x3, x4⟩
  icases Hy with ⟨y0, y1, y2, y3, y4⟩
  icases Hz with ⟨z0, z1, z2, z3, z4⟩
  icases Hq with ⟨q0, q1, q2, q3, q4⟩
  icases Hqy with ⟨u0, u1, u2, u3, u4⟩
  icases Hqz with ⟨w0, w1, w2, w3, w4⟩
  icases Hopp with ⟨o0, o1, o2, o3, o4, o5⟩
  ihave Hk := (free_of c .kb 0 4096 fk (locFree 0 c) rfl) $$ Hk
  ihave Hs1 := (free_of c .sb 0 1024 fs (locFree 1 c) rfl) $$ Hs1
  ihave Hs2 := (free_of c .sb 1024 344 fs (locFree 2 c) rfl) $$ Hs2
  ihave Hown := (free_of c .ou (4096 * xc c) 4096 fo (locFree 18 c) rfl) $$ Hown
  isplitl [x0 x1 x2 x3 x4 y0 y1 y2 y3 y4 z0 z1 z2 z3 z4 o0 o1 o2 o3 o4 o5]
  · isplitl [x0]; · iexact x0
    isplitl [x1]; · iexact x1
    isplitl [x2]; · iexact x2
    isplitl [x3]; · iexact x3
    isplitl [x4]; · iexact x4
    isplitl [y0]; · iexact y0
    isplitl [y1]; · iexact y1
    isplitl [y2]; · iexact y2
    isplitl [y3]; · iexact y3
    isplitl [y4]; · iexact y4
    isplitl [z0]; · iexact z0
    isplitl [z1]; · iexact z1
    isplitl [z2]; · iexact z2
    isplitl [z3]; · iexact z3
    isplitl [z4]; · iexact z4
    isplitl [o0]; · iexact o0
    isplitl [o1]; · iexact o1
    isplitl [o2]; · iexact o2
    isplitl [o3]; · iexact o3
    isplitl [o4]; · iexact o4
    iexact o5
  · isplitl [Hk]; · iexact Hk
    isplitl [Hs1]; · iexact Hs1
    isplitl [Hs2]; · iexact Hs2
    isplitl [q0]; · iexact q0
    isplitl [q1]; · iexact q1
    isplitl [q2]; · iexact q2
    isplitl [q3]; · iexact q3
    isplitl [q4]; · iexact q4
    isplitl [u0]; · iexact u0
    isplitl [u1]; · iexact u1
    isplitl [u2]; · iexact u2
    isplitl [u3]; · iexact u3
    isplitl [u4]; · iexact u4
    isplitl [w0]; · iexact w0
    isplitl [w1]; · iexact w1
    isplitl [w2]; · iexact w2
    isplitl [w3]; · iexact w3
    isplitl [w4]; · iexact w4
    iexact Hown

/-! ## After -/

/-- Five chunks make a quarter; two shares, or three, make a region whole. -/
theorem join5 (c : Dev nD) (b : Bf) (lo : ℕ) (s : PosShare TreeShare) (A B C D E : sProp 𝕄) (hA : A = have' m c b lo 64 0 s) (hB : B = have' m c b (lo + 64) 192 0 s)
    (hC : C = have' m c b (lo + 256) 256 0 s) (hD : D = have' m c b (lo + 512) 256 0 s) (hE : E = have' m c b (lo + 768) 256 0 s) :
    A ⊢ iprop(B -∗ C -∗ D -∗ E -∗ have' m c b lo 1024 0 s) := by
  subst hA hB hC hD hE
  unfold have'
  iintro HA HB HC HD HE
  iapply (Entails.of_eq (pts_chunks c b lo 0 s (val m c b)).symm)
  isplitl [HA]; · iexact HA
  isplitl [HB]; · iexact HB
  isplitl [HC]; · iexact HC
  isplitl [HD]; · iexact HD
  iexact HE
theorem join6 (c : Dev nD) (b : Bf) (lo : ℕ) (s : PosShare TreeShare) (A B C D E G : sProp 𝕄) (hA : A = have' m c b lo 64 0 s) (hB : B = have' m c b (lo + 64) 192 0 s)
    (hC : C = have' m c b (lo + 256) 88 0 s) (hD : D = have' m c b (lo + 344) 168 0 s) (hE : E = have' m c b (lo + 512) 168 0 s) (hG : G = have' m c b (lo + 680) 344 0 s) :
    A ⊢ iprop(B -∗ C -∗ D -∗ E -∗ G -∗ have' m c b lo 1024 0 s) := by
  subst hA hB hC hD hE hG
  unfold have'
  iintro HA HB HC HD HE HG
  iapply (Entails.of_eq (pts_sixths c b lo 0 s (val m c b)).symm)
  isplitl [HA]; · iexact HA
  isplitl [HB]; · iexact HB
  isplitl [HC]; · iexact HC
  isplitl [HD]; · iexact HD
  isplitl [HE]; · iexact HE
  iexact HG
theorem joinRows (c : Dev nD) (b : Bf) (lo n₁ n₂ : ℕ) (s : PosShare TreeShare) (A B : sProp 𝕄) (hA : A = have' m c b lo n₁ 0 s) (hB : B = have' m c b (lo + n₁) n₂ 0 s) :
    A ⊢ iprop(B -∗ have' m c b lo (n₁ + n₂) 0 s) := by
  subst hA hB
  unfold have'
  iintro HA HB
  iapply (Entails.of_eq (pts_rows c b lo n₁ n₂ 0 s (val m c b)).symm)
  isplitl [HA]; · iexact HA
  iexact HB
theorem join3 (c : Dev nD) (b : Bf) (lo n : ℕ) :
    have' m c b lo n 0 shY ⊢ iprop(have' m c b lo n 0 shZ -∗ have' m c b lo n 0 shC -∗ have' m c b lo n 0 fullShare) := by
  unfold have'
  iintro HA HB HC
  iapply (Entails.of_eq (pts_thirds c b lo n 0 (val m c b)).symm)
  isplitl [HA]; · iexact HA
  isplitl [HB]; · iexact HB
  iexact HC
theorem join2 (c : Dev nD) (b : Bf) (lo n : ℕ) :
    have' m c b lo n 0 shY ⊢ iprop(have' m c b lo n 0 fullShare.right -∗ have' m c b lo n 0 fullShare) := by
  unfold have'
  iintro HA HB
  iapply (Entails.of_eq (pts_halves c b lo n 0 fullShare (val m c b)).symm)
  isplitl [HA]; · iexact HA
  iexact HB

/-- A device's memory at the end. -/
def final (c : Dev nD) : sProp 𝕄 :=
  iprop(((c : Thread nD τ).loc main_arg0 ↦{fullShare} m ((c : Thread nD τ).loc main_arg0))
    ∗ ((c : Thread nD τ).loc main_v1 ↦{fullShare} (val m c .ou : Buf (Elt F) ((c : Thread nD τ).loc main_v1))) ∗ scratch c)

set_option maxHeartbeats 1000000 in
/-- What has come back makes up the buffers. -/
theorem gather (c : Dev nD) : iprop(bag (allGains m c) ∗ argRest m c) ⊢ final m c := by
  simp only [allGains, gains, bag]
  iintro ⟨⟨d18, s18, d17, s17, d12, s12, d16, s16, d11, s11, d7, s7, d15, s15, d10, s10, d6, s6, d14, s14, d9, s9, d5, s5, d13, s13, d8, s8, d4, s4, d3, s3, p5, p20, p17, p16, p13, p10, p19, p15, p12, p9, p7, p18, p14, p11, p8, p6, p4, p3, p2, p1, p0, r20, r17, r16, r13, r10, r5, s0, y768, z768, y680, z512, y256, z344, y64, y0, s2, s1, -⟩, Hrest⟩
  ihave hs := (join5 m c .sb 0 fullShare (sendPay m 0 c) (sendPay m 1 c) (sendPay m 2 c) (sendPay m 3 c) (sendPay m 4 c) rfl rfl rfl rfl rfl) $$ p0 p1 p2 p3 p4
  ihave Hs := (show _ ⊢ iprop(_ -∗ have' m c .sb 0 1368 0 fullShare) from joinRows m c .sb 0 1024 344 fullShare (have' m c .sb 0 1024 0 fullShare) (sendPay m 5 c) rfl rfl) $$ hs p5
  ihave xY := (join5 m c .xr 0 shY (sendPay m 6 c) (sendPay m 8 c) (sendPay m 11 c) (sendPay m 14 c) (sendPay m 18 c) rfl rfl rfl rfl rfl) $$ p6 p8 p11 p14 p18
  ihave xZ := (join5 m c .xr 0 shZ (sendPay m 7 c) (sendPay m 9 c) (sendPay m 12 c) (sendPay m 15 c) (sendPay m 19 c) rfl rfl rfl rfl rfl) $$ p7 p9 p12 p15 p19
  ihave xC := (join5 m c .xr 0 shC (locSrc m 3 c) (locSrc m 4 c) (locSrc m 5 c) (locSrc m 6 c) (locSrc m 7 c) rfl rfl rfl rfl rfl) $$ s3 s4 s5 s6 s7
  ihave Hx := (join3 m c .xr 0 1024) $$ xY xZ xC
  ihave ya := (show _ ⊢ iprop(_ -∗ have' m c .yr 256 256 0 shY) from joinRows m c .yr 256 88 168 shY (have' m c .yr 256 88 0 shY) (sendPay m 17 c) rfl rfl) $$ y256 p17
  ihave yb := (show _ ⊢ iprop(_ -∗ have' m c .yr 512 256 0 shY) from joinRows m c .yr 512 168 88 shY (sendPay m 20 c) (have' m c .yr 680 88 0 shY) rfl rfl) $$ p20 y680
  ihave yL := (join5 m c .yr 0 shY (have' m c .yr 0 64 0 shY) (have' m c .yr 64 192 0 shY) (have' m c .yr 256 256 0 shY) (have' m c .yr 512 256 0 shY) (have' m c .yr 768 256 0 shY) rfl rfl rfl rfl rfl) $$ y0 y64 ya yb y768
  ihave yR := (join5 m c .yr 0 fullShare.right (locSrc m 13 c) (locSrc m 14 c) (locSrc m 15 c) (locSrc m 16 c) (locSrc m 17 c) rfl rfl rfl rfl rfl) $$ s13 s14 s15 s16 s17
  ihave Hy := (join2 m c .yr 0 1024) $$ yL yR
  ihave za := (show _ ⊢ iprop(_ -∗ have' m c .zr 256 256 0 shY) from joinRows m c .zr 256 88 168 shY (sendPay m 16 c) (have' m c .zr 344 168 0 shY) rfl rfl) $$ p16 z344
  ihave zL := (join5 m c .zr 0 shY (sendPay m 10 c) (sendPay m 13 c) (have' m c .zr 256 256 0 shY) (have' m c .zr 512 256 0 shY) (have' m c .zr 768 256 0 shY) rfl rfl rfl rfl rfl) $$ p10 p13 za z512 z768
  ihave zR := (join5 m c .zr 0 fullShare.right (locSrc m 8 c) (locSrc m 9 c) (locSrc m 10 c) (locSrc m 11 c) (locSrc m 12 c) rfl rfl rfl rfl rfl) $$ s8 s9 s10 s11 s12
  ihave Hz := (join2 m c .zr 0 1024) $$ zL zR
  ihave q0 := (join5 m c .ou (quart c (q c)) fullShare (locDst m 3 c) (locDst m 4 c) (locDst m 5 c) (locDst m 6 c) (locDst m 7 c) rfl rfl rfl rfl rfl) $$ d3 d4 d5 d6 d7
  ihave q1 := (join5 m c .ou (quart c (q (yp c))) fullShare (locDst m 13 c) (locDst m 14 c) (locDst m 15 c) (locDst m 16 c) (locDst m 17 c) rfl rfl rfl rfl rfl) $$ d13 d14 d15 d16 d17
  ihave q2 := (join5 m c .ou (quart c (q (zp c))) fullShare (locDst m 8 c) (locDst m 9 c) (locDst m 10 c) (locDst m 11 c) (locDst m 12 c) rfl rfl rfl rfl rfl) $$ d8 d9 d10 d11 d12
  ihave q3 := (join6 m c .ou (oppRow c) fullShare (recvPay m 10 c) (recvPay m 13 c) (recvPay m 16 c) (recvPay m 17 c) (recvPay m 20 c) (recvPay m 5 c) rfl rfl rfl rfl rfl rfl) $$ r10 r13 r16 r17 r20 r5
  ihave Ho := (show iprop(locDst m 18 c ∗ have' m c .ou (quart c (q c)) 1024 0 fullShare ∗ have' m c .ou (quart c (q (yp c))) 1024 0 fullShare
      ∗ have' m c .ou (quart c (q (zp c))) 1024 0 fullShare ∗ have' m c .ou (oppRow c) 1024 0 fullShare) ⊢ _
    from Entails.of_eq (pts_result c fullShare (val m c .ou)).symm) $$ [d18 q0 q1 q2 q3]
  · isplitl [d18]; · iexact d18
    isplitl [q0]; · iexact q0
    isplitl [q1]; · iexact q1
    isplitl [q2]; · iexact q2
    iexact q3
  unfold final scratch
  isplitl [s0 s1 s2 Hrest]
  · iapply (Entails.of_eq (arg_eq m c).symm)
    unfold argParts
    isplitr [Hrest]
    · isplitl [s0]; · iexact s0
      isplitl [s1]; · iexact s1
      iexact s2
    · iexact Hrest
  isplitl [Ho]
  · iapply (Entails.of_eq (pts_whole c .ou (by decide) fullShare (val m c .ou)))
    iexact Ho
  isplitl [Hs]; · iapply (pts_any m c .sb (by decide) (have' m c .sb 0 1368 0 fullShare) rfl); iexact Hs
  isplitl [Hx]; · iapply (pts_any m c .xr (by decide) (have' m c .xr 0 1024 0 fullShare) rfl); iexact Hx
  isplitl [Hy]; · iapply (pts_any m c .yr (by decide) (have' m c .yr 0 1024 0 fullShare) rfl); iexact Hy
  isplitl [Hz]; · iapply (pts_any m c .zr (by decide) (have' m c .zr 0 1024 0 fullShare) rfl); iexact Hz
  iapply (pts_any m c .kb (by decide) (locSrc m 18 c) rfl); iexact s18

end Cert.Exchange

end
-- ==== Proof.Deal.lean ====
/-
# What the launch deals

Every device receives its places at its own semaphores, the rights to complete the semaphores it completes (its own senders',
its neighbours' barriers and receivers), the credit others owe it, and its local semaphores.
-/
module

public import proofs.«01_k».proof.Proof.Memory

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the semaphores -/

omit [FloatOps F] in
/-- A family over two kinds. -/
theorem two_kinds {I J : Type} [Fintype I] [Fintype J] [DecidableEq I] [DecidableEq J] (Φ : I ⊕ J → sProp 𝕄) :
    bigSep Finset.univ Φ = iprop(bigSep Finset.univ (fun i => Φ (.inl i)) ∗ bigSep Finset.univ (fun j => Φ (.inr j))) := by
  have h : (Finset.univ : Finset (I ⊕ J)) = Finset.univ.map ⟨Sum.inl, Sum.inl_injective⟩ ∪ Finset.univ.map ⟨Sum.inr, Sum.inr_injective⟩ := by
    ext (i | j) <;> simp
  rw [h, bigSep_union (by rw [Finset.disjoint_left]; rintro (i | j) <;> simp), bigSep_map, bigSep_map]
  rfl

omit [FloatOps F] in
/-- A family over the copies' semaphores: the senders' and the receivers'. -/
theorem both_ends (Φ : Bool × Fin 21 → sProp 𝕄) :
    bigSep Finset.univ Φ = iprop(bigSep Finset.univ (fun t => Φ (false, t)) ∗ bigSep Finset.univ (fun t => Φ (true, t))) := by
  rw [bigSep_univ_prod, bigSep_univ_eq_bigSepL [false, true] (by decide) (by decide)]
  rfl

omit [FloatOps F] in
/-- A family over a device's cells: its barrier's, the senders', the receivers'. -/
theorem cells_split (Φ : Option (Bool × Fin 21) → sProp 𝕄) :
    bigSep Finset.univ Φ = iprop(Φ none ∗ bigSep Finset.univ (fun t => Φ (some (false, t))) ∗ bigSep Finset.univ (fun t => Φ (some (true, t)))) := by
  have h : (Finset.univ : Finset (Option (Bool × Fin 21))) = insert none (Finset.univ.map ⟨some, Option.some_injective _⟩) := by
    ext (_ | x) <;> simp
  rw [h, bigSep_insert (by simp), bigSep_map]
  exact congrArg _ (both_ends fun x => Φ (some x))

omit [FloatOps F] in
/-- What every device holds for its neighbour, passed across: item `i` across the axis `f i`. -/
theorem across {I : Type} [Fintype I] [DecidableEq I] (f : I → Fin 3) (Φ : Dev nD → I → sProp 𝕄) :
    (bigSep Finset.univ fun c : Dev nD => bigSep Finset.univ fun i => Φ c i)
      = bigSep Finset.univ fun c : Dev nD => bigSep Finset.univ fun i => Φ (flip (f i) c) i := by
  have hi : Function.Involutive fun ci : Dev nD × I => (flip (f ci.2) ci.1, ci.2) := fun ci => by
    show (flip (f ci.2) (flip (f ci.2) ci.1), ci.2) = ci
    rw [flip_flip]
  rw [← bigSep_univ_prod (fun ci : Dev nD × I => Φ ci.1 ci.2), bigSep_univ_equiv hi.toPerm, bigSep_univ_prod]
  rfl

/-! ## The semaphores -/

/-- The kernel's own semaphores: the copies' between devices, and the local copies'. -/
def ownSem : (Bool × Fin 21) ⊕ Fin 19 → SemLoc sig
  | .inl x => .dma (semOf x)
  | .inr l => .dma (lb l).s

theorem ownSem_inj : Function.Injective ownSem := by
  rintro (x | l) (y | k) h
  · exact congrArg Sum.inl (semOf_inj (SemLoc.dma.inj h))
  · exact absurd (SemLoc.dma.inj h) (semOf_ne_local x k)
  · exact absurd (SemLoc.dma.inj h).symm (semOf_ne_local y l)
  · exact congrArg Sum.inr (lb_s_inj (SemLoc.dma.inj h))

theorem dma_scoped (k : Fin 61) : (SemLoc.dma k : SemLoc sig).isScoped .tc = true := by revert k; decide +kernel

theorem ownSemFacts : Pipeline.OwnSemFacts cfg0.spec ownSem where
  isScoped
    | .inl x => dma_scoped _
    | .inr l => dma_scoped _
  inj := ownSem_inj
  disj _ w := w.elim0

/-- Every own semaphore of the device at zero. -/
abbrev own0 (c : Dev nD) : sProp 𝕄 := Pipeline.ownSems0 (Ix := Unit) (Name := ℕ) (U := UU) (Lvl := ℕ) (Val := Elt F) (τ := τ) ownSem c

omit [FloatOps F] in
theorem own0_eq (c : Dev nD) : own0 (F := F) c
    = iprop((bigSep Finset.univ fun t => semVal (sendCell t c) 0) ∗ (bigSep Finset.univ fun t => semVal (recvCell t c) 0)
      ∗ bigSep Finset.univ fun l => semVal (locCell l c) 0) := by
  unfold own0 Pipeline.ownSems0
  rw [two_kinds, both_ends]
  exact equiv_iff.mp ⟨BI.sep_assoc, BI.sep_assoc'⟩

omit [FloatOps F] in
/-- The barrier semaphore is the launch's one other. -/
theorem others0_eq (c : Dev nD) : (unscopedSems0 c : sProp 𝕄) = semVal (barCell c) 0 := by
  unfold unscopedSems0; rw [bigSep_eq_bigSepL_of_eq [SemLoc.reg barS] (by decide +kernel) (by decide)]; rfl

/-! ## The protocol's start -/

theorem cell_injective : Function.Injective fun ck : Dev nD × Option (Bool × Fin 21) => cell ck.1 ck.2 := fun a b h =>
  Prod.ext (cell_inj h).1 (cell_inj h).2
def allCells : Finset (GSem nD τ sig) := Finset.univ.map ⟨_, cell_injective⟩

/-- The rights as they are minted: a device's barrier's three, its copies' semaphores' one each. -/
def tokAt (cj : Dev nD × (Fin 3 ⊕ (Bool × Fin 21))) : GSem nD τ sig × ℕ × Fin 3 := match cj.2 with
  | .inl a => (barCell cj.1, 0, a)
  | .inr x => (cell cj.1 (some x), 0, 0)
theorem tokAt_injective : Function.Injective tokAt := by
  rintro ⟨c, a | x⟩ ⟨c', a' | x'⟩ h
  · have h1 := cell_inj (congrArg Prod.fst h)
    have h2 : a = a' := congrArg (fun y : GSem nD τ sig × ℕ × Fin 3 => y.2.2) h
    have h3 : c = c' := h1.1
    rw [h3, h2]
  · have h1 := cell_inj (congrArg Prod.fst h)
    cases h1.2
  · have h1 := cell_inj (congrArg Prod.fst h)
    cases h1.2
  · have h1 := cell_inj (congrArg Prod.fst h)
    have h3 : c = c' := h1.1
    rw [h3, Option.some.inj h1.2]
def allToks : Finset (GSem nD τ sig × ℕ × Fin 3) := Finset.univ.map ⟨tokAt, tokAt_injective⟩

/-- The launch's element of the algebra. -/
def u₀ : UU := (initOf (Pipeline.cells cfgs cellOf_inj) (Pipeline.launchToks cfgs cellOf_inj), (initOf allCells allToks, 1))

omit [FloatOps F] in
theorem u₀_split : (ownU u₀ : sProp 𝕄)
    ⊢ iprop(BI.own (EP (initOf (Pipeline.cells cfgs cellOf_inj) (Pipeline.launchToks cfgs cellOf_inj))) ∗ BI.own (ER (initOf allCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op ((initOf allCells allToks, 1) : UB × Counters))))

/-- The rights to complete device `c`'s own cells. -/
def toks (c : Dev nD) : sProp 𝕄 :=
  iprop((bigSep Finset.univ fun a : Fin 3 => dutyTok ER (barCell c) 0 a)
    ∗ (bigSep Finset.univ fun t => dutyTok ER (sendCell t c) 0 0) ∗ bigSep Finset.univ fun t => dutyTok ER (recvCell t c) 0 0)

/-- What the element deals device `c`. -/
def dealt (c : Dev nD) : sProp 𝕄 :=
  iprop((bigSep Finset.univ fun k => roundState ER (sched m) (cell c k) 0)
    ∗ (bigSep Finset.univ fun k => iprop(atPos ER (cell c k) 0 ∅ 0 ∗ reached ER (cell c k) 0)) ∗ toks c)

omit [FloatOps F] in
theorem deal : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [two_kinds, both_ends]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- One device's cells opened: their invariants allocated, the local semaphores kept. -/
theorem open_cells (c : Dev nD) :
    iprop(own0 (F := F) c ∗ unscopedSems0 c ∗ dealt m c)
      ⊢ |={Set.univ}=> iprop((bigSep Finset.univ fun k => iprop(∃ κ : ℕ, cellInv ER (sched m) κ (cell c k)))
          ∗ (bigSep Finset.univ fun k => iprop(atPos ER (cell c k) 0 ∅ 0 ∗ reached ER (cell c k) 0)) ∗ toks c
          ∗ bigSep Finset.univ fun l => semVal (locCell l c) 0) := by
  rw [own0_eq, others0_eq]
  unfold dealt
  iintro ⟨⟨Hs, Hr, Hl⟩, Hb, Hst, Hat, Htok⟩
  ihave Hv := (Entails.of_eq (cells_split (F := F) fun k => semVal (cell c k) 0).symm) $$ [Hb Hs Hr]
  · isplitl [Hb]; · iexact Hb
    isplitl [Hs]; · iexact Hs
    iexact Hr
  imod (show iprop((bigSep Finset.univ fun k => semVal (cell c k) 0) ∗ bigSep Finset.univ fun k => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What device `c` holds of the protocol at the start, besides the records: its places, the rights it uses, its local
    semaphores. -/
def linear (c : Dev nD) : sProp 𝕄 :=
  iprop((bigSep Finset.univ fun k => atPos ER (cell c k) 0 ∅ 0)
    ∗ ((bigSep Finset.univ fun a : Fin 3 => dutyTok ER (barCell (flip a c)) 0 a)
      ∗ (bigSep Finset.univ fun t => dutyTok ER (sendCell t c) 0 0) ∗ bigSep Finset.univ fun t => dutyTok ER (recvCell t (peer t c)) 0 0)
    ∗ bigSep Finset.univ fun l => semVal (locCell l c) 0)

omit [FloatOps F] in
/-- The rights handed to those who use them. -/
theorem hand_over : (bigSep Finset.univ fun c : Dev nD => (toks c : sProp 𝕄))
    ⊢ bigSep Finset.univ fun c : Dev nD => iprop((bigSep Finset.univ fun a : Fin 3 => dutyTok ER (barCell (flip a c)) 0 a)
      ∗ (bigSep Finset.univ fun t => dutyTok ER (sendCell t c) 0 0) ∗ bigSep Finset.univ fun t => dutyTok ER (recvCell t (peer t c)) 0 0) := by
  unfold toks
  rw [bigSep_sep', bigSep_sep', bigSep_sep', bigSep_sep',
    across (F := F) (I := Fin 3) (fun a => a) (fun c a => dutyTok ER (barCell c) 0 a),
    across (F := F) (fun t : Fin 21 => (tb t).ax) (fun c t => dutyTok ER (recvCell t c) 0 0)]

/-- What the global step makes of it. -/
def seated (c : Dev nD) : sProp 𝕄 := iprop(∃ K, records m K ∗ linear c)

omit [FloatOps F] in
theorem regroup :
    (bigSep Finset.univ fun c : Dev nD => iprop((bigSep Finset.univ fun k => iprop(∃ κ : ℕ, cellInv ER (sched m) κ (cell c k)))
          ∗ (bigSep Finset.univ fun k => iprop(atPos ER (cell c k) 0 ∅ 0 ∗ reached ER (cell c k) 0)) ∗ toks c
          ∗ bigSep Finset.univ fun l => semVal (locCell l c) 0) : sProp 𝕄)
      ⊢ bigSep Finset.univ (seated m) := by
  have hs (K : Dev nD × Option (Bool × Fin 21) → ℕ) : iprop(records m K ∗ bigSep Finset.univ fun c : Dev nD => linear (F := F) c)
      ⊢ bigSep Finset.univ (seated m) := by
    have hk (c : Dev nD) : iprop(records m K ∗ linear (F := F) c) ⊢ seated m c := by
      unfold seated
      iintro H
      iexists K
      iexact H
    refine (BIClass.sep_mono (BI.bigSep_of_persistent (Finset.univ : Finset (Dev nD)) (records m K)) (Entails.refl _)).trans ?_
    rw [← bigSep_sep']
    exact bigSep_mono fun c _ => hk c
  rw [bigSep_sep', bigSep_sep', bigSep_sep', ← bigSep_univ_prod (fun ck : Dev nD × Option (Bool × Fin 21) => iprop(∃ κ : ℕ, cellInv ER (sched m) κ (cell ck.1 ck.2))),
    bigSep_congr (s := Finset.univ) (fun (c : Dev nD) _ => bigSep_sep' Finset.univ (fun k => (atPos ER (cell c k) 0 ∅ 0 : sProp 𝕄)) (fun k => reached ER (cell c k) 0)),
    bigSep_sep', ← bigSep_univ_prod (fun ck : Dev nD × Option (Bool × Fin 21) => (reached ER (cell ck.1 ck.2) 0 : sProp 𝕄))]
  iintro ⟨HI, ⟨Hat, #HR⟩, Htok, Hl⟩
  ihave HK := (BI.bigSep_exists_pi Finset.univ (fun (ck : Dev nD × Option (Bool × Fin 21)) (κ : ℕ) => (cellInv ER (sched m) κ (cell ck.1 ck.2) : sProp 𝕄))) $$ HI
  icases HK with ⟨%K, #HI⟩
  ihave Htk := (hand_over (F := F)) $$ Htok
  iapply (hs K)
  isplitr
  · unfold records; isplitl; · iexact HI
    iexact HR
  unfold linear
  iapply (Entails.of_eq (show _ = bigSep Finset.univ _ from by rw [bigSep_sep', bigSep_sep']))
  isplitl [Hat]; · iexact Hat
  isplitl [Htk]; · iexact Htk
  iexact Hl

omit [FloatOps F] in
/-- The global step: all devices' cells at once. -/
theorem setup : (bigSep Finset.univ fun c => iprop(own0 (F := F) c ∗ unscopedSems0 c ∗ dealt m c) : sProp 𝕄)
    ⊢ |={Set.univ}=> bigSep Finset.univ (seated m) :=
  ((bigSep_mono fun c _ => open_cells m c).trans (bigSep_fupd _ _)).trans (BI.fupd_mono (regroup m))

/-! ## The launch credit -/

theorem owed_unit (d c : Dev nD) (a : Fin 3) : (tallyAt (barCell (flip a d)) () 1 : CellTallies nD τ sig Unit) (barCell c) () = if d = flip a c then 1 else 0 := by
  rw [tallyAt_apply]
  by_cases h : d = flip a c
  · subst h; rw [flip_flip, if_pos ⟨rfl, rfl⟩, if_pos rfl]
  · rw [if_neg (fun h' => h (by rw [(cell_inj h'.1).1, flip_flip])), if_neg h]

theorem Ow_bar (d c : Dev nD) : Ow d 0 (barCell c) () = 0 := by
  by_contra h
  obtain ⟨t, -, h1⟩ := Ow_pos (Nat.pos_of_ne_zero h)
  cases (cell_inj h1).2

theorem owed_bar (d c : Dev nD) : O₀ d (barCell c) () = (if d = flip 2 c then 1 else 0) + (if d = flip 1 c then 1 else 0) + (if d = flip 0 c then 1 else 0) := by
  unfold O₀
  rw [Pi.add_apply, Finsupp.add_apply, Pi.add_apply, Finsupp.add_apply, Pi.add_apply, Finsupp.add_apply, Ow_bar, Nat.zero_add]
  exact congrArg₂ _ (congrArg₂ _ (owed_unit d c 2) (owed_unit d c 1)) (owed_unit d c 0)

theorem unit_recv (d c : Dev nD) (t : Fin 21) : (tallyAt (barCell d) () 1 : CellTallies nD τ sig Unit) (recvCell t c) () = 0 := by
  rw [tallyAt_apply]
  exact if_neg fun h => by cases (cell_inj h.1).2

theorem Ow_recv (d c : Dev nD) (t : Fin 21) : Ow d 0 (recvCell t c) () = if d = peer t c then amt t else 0 := by
  unfold Ow
  rw [Finset.sum_apply, Finsupp.finset_sum_apply, Finset.sum_eq_single (M := ℕ) t]
  · rw [tallyAt_apply]
    by_cases h : d = peer t c
    · subst h; rw [peer, peer, flip_flip, if_pos ⟨rfl, rfl⟩, if_pos rfl]
    · rw [if_neg (fun h' => h (by rw [(cell_inj h'.1).1, peer, peer, flip_flip])), if_neg h]
  · intro u _ hu
    rw [tallyAt_apply]
    exact if_neg fun h => hu (congrArg Prod.snd (Option.some.inj (cell_inj h.1).2)).symm
  · intro h
    exact absurd (by simp) h

theorem owed_recv (d c : Dev nD) (t : Fin 21) : O₀ d (recvCell t c) () = if d = peer t c then amt t else 0 := by
  unfold O₀
  rw [Pi.add_apply, Finsupp.add_apply, Pi.add_apply, Finsupp.add_apply, Pi.add_apply, Finsupp.add_apply, unit_recv, unit_recv, unit_recv, Ow_recv]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (c : Dev nD) (t : Fin 21) :
    tallyOn (recvCell t c) (launchCredit (Pipeline.owing O₀) 0 (recvCell t c)) = (tallyAt (recvCell t c) () (amt t) : CellTallies nD τ sig Unit) := by
  unfold tallyAt; refine congrArg _ (Finsupp.ext fun u => ?_); cases u
  rw [Pipeline.launchCredit_owing, Finsupp.single_eq_same, Finset.sum_congr rfl fun d _ => owed_recv d c t]
  simp only [Finset.sum_ite_eq', Finset.mem_univ, if_true]

omit [FloatOps F] in
/-- The credit the launch gives device `c`: three units at its barrier, every arrival. -/
theorem creds (c : Dev nD) : (Pipeline.launchCred O₀ c : sProp 𝕄)
    ⊢ iprop(cred (tallyAt (barCell c) () 3) ∗ bigSep Finset.univ fun t => cred (tallyAt (recvCell t c) () (amt t))) := by
  have e (Φ : SemLoc sig → sProp 𝕄) : bigSep Finset.univ Φ
      = iprop(bigSep Finset.univ (fun k => Φ (csem k)) ∗ bigSep (Finset.univ \ Finset.univ.map ⟨csem, csem_inj⟩) Φ) := by
    rw [← Finset.union_sdiff_of_subset (Finset.subset_univ (Finset.univ.map ⟨csem, csem_inj⟩)), bigSep_union Finset.disjoint_sdiff, bigSep_map,
      Finset.union_sdiff_of_subset (Finset.subset_univ _)]
    rfl
  unfold Pipeline.launchCred
  rw [e, cells_split]
  iintro ⟨⟨HB, -, HR⟩, -⟩
  isplitl [HB]
  · rw [← launch_bar]; iexact HB
  rw [← bigSep_congr (s := Finset.univ) (fun t _ => congrArg (fun T => (cred T : sProp 𝕄)) (launch_recv c t))]
  iexact HR

end Cert.Exchange

end
-- ==== Proof.Launch.lean ====
/-
# The launch

Every device's run, from what the launch deals it to its buffers as they are to be and its semaphores at zero; then the
program's run on the whole mesh.
-/
module

public import proofs.«01_k».proof.Proof.Deal
public import Idealize.ShloMosaic.Lib.Pipeline.CollectiveSegs
public import Idealize.ShloMosaic.Lib.Quiescent

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## One device -/

/-- What a device starts with, besides its scratch buffers. -/
def start (c : Dev nD) : sProp 𝕄 :=
  iprop(seated m c ∗ cred (tallyAt (barCell c) () 3) ∗ (bigSep Finset.univ fun t => cred (tallyAt (recvCell t c) () (amt t))) ∗ levAts L lv
    ∗ ((c : Thread nD τ).loc main_arg0 ↦{fullShare} m ((c : Thread nD τ).loc main_arg0)) ∗ anyBuf c main_v1)

def before (c : Dev nD) : sProp 𝕄 := iprop(start m c ∗ scratch c)
def after (c : Dev nD) : sProp 𝕄 := iprop(final m c ∗ own0 (F := F) c ∗ semVal (barCell c) 0)

omit [FloatOps F] in
/-- When everything has been waited for, every own semaphore is back at zero. -/
theorem all_waited (c : Dev nD) {A R : List (Fin 21)} {S D : List (Fin 19)} (hA : ∀ t, t ∈ A) (hR : ∀ t, t ∈ R) (hD : ∀ l, l ∈ D) :
    iprop(bigSep Finset.univ (sendSt (F := F) c 21 A) ∗ bigSep Finset.univ (recvSt (F := F) c R) ∗ bigSep Finset.univ (locSt m c S D)) ⊢ own0 (F := F) c := by
  rw [own0_eq, bigSep_congr (s := Finset.univ) (fun t _ => show sendSt (F := F) c 21 A t = semVal (sendCell t c) 0 from by
      unfold sendSt; rw [if_pos t.isLt, if_pos (hA t)]),
    bigSep_congr (s := Finset.univ) (fun t _ => show recvSt (F := F) c R t = semVal (recvCell t c) 0 from if_pos (hR t)),
    bigSep_congr (s := Finset.univ) (fun l _ => show locSt m c S D l = semVal (locCell l c) 0 from if_pos (hD l))]

/-- A device's run. -/
theorem device (c : Dev nD) (Kt : PUnit → sProp 𝕄) :
    iprop(before m c ∗ ∃ W, owes (c : Thread nD τ) (O₀ c) W)
      ⊢ iprop(((after m c ∗ ∃ W, owes (c : Thread nD τ) 0 W) -∗ Kt ⟨⟩) -∗ run c (atBufs (cc0_body (F := F))) Kt) := by
  unfold before start seated linear
  rw [arg_eq, cells_split, bigSep_univ_eq_bigSepL ([0, 1, 2] : List (Fin 3)) (by decide) (by decide), listed, listed, bigSepL_singleton]
  iintro ⟨⟨⟨⟨%K, #HR, ⟨HaB, HaS, HaR⟩, ⟨⟨Hx, Hy, Hz⟩, HtS, HtR⟩, Hl⟩, HcB, HcR, #HL, ⟨Hargs, Hrest⟩, Hout⟩, Hscr⟩, HO⟩ Hk
  ihave Hcut := (cut_all (F := F) c) $$ [Hout Hscr]
  · isplitl [Hout] <;> iassumption
  icases Hcut with ⟨Hland, Hfree⟩
  iapply (whole m K c Kt) $$ [HaB HaS HaR Hx Hy Hz HtS HtR Hl HcB HcR Hargs HO Hland Hfree]
  · isplitr [Hargs]
    · unfold ready
      isplitr; · iexact HR
      isplitr; · iexact HL
      isplitl [HO]; · iexact HO
      isplitl [HcB]; · iexact HcB
      isplitl [HaB]; · iexact HaB
      isplitl [Hx]; · iexact Hx
      isplitl [Hy]; · iexact Hy
      isplitl [Hz]; · iexact Hz
      isplitl [Hland]; · iexact Hland
      isplitl [HaS HtS HtR]
      · unfold rights
        rw [bigSep_sep', bigSep_sep']
        isplitl [HaS]; · iexact HaS
        isplitl [HtS]; · iexact HtS
        iexact HtR
      isplitl [HcR HaR]
      · unfold coming
        rw [bigSep_sep']
        isplitl [HcR]; · iexact HcR
        iexact HaR
      unfold toCopy
      rw [bigSep_sep']
      isplitl [Hl]; · iexact Hl
      iexact Hfree
    · iexact Hargs
  unfold eng
  rw [Ow_end]
  iintro ⟨⟨-, -, HO, Hs, Hr, Hl⟩, Hbag, Hbar⟩
  iapply Hk
  isplitr [HO]
  · unfold after
    isplitl [Hbag Hrest]
    · iapply (gather m c)
      isplitl [Hbag] <;> iassumption
    isplitl [Hs Hr Hl]
    · iapply (all_waited m c (A := [5, 20, 17, 16, 13, 10, 19, 15, 12, 9, 7, 18, 14, 11, 8, 6, 4, 3, 2, 1, 0])
        (R := [20, 17, 16, 13, 10, 5, 18, 19, 14, 15, 4, 11, 12, 3, 8, 9, 2, 6, 7, 1, 0])
        (D := [18, 17, 12, 16, 11, 7, 15, 10, 6, 14, 9, 5, 13, 8, 4, 3, 0, 2, 1]) (by decide) (by decide) (by decide))
      isplitl [Hs]; · iexact Hs
      isplitl [Hr]; · iexact Hr
      iexact Hl
    iexact Hbar
  iexact HO

/-! ## The kernel's region -/

def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => O₀ c
    | ⟨_ + 1, _⟩ => 0

omit [FloatOps F] in
theorem no_windows (Φ : Fin cfg0.W → sProp 𝕄) : bigSep Finset.univ Φ = iprop(emp) := by
  haveI : IsEmpty (Fin cfg0.W) := inferInstanceAs (IsEmpty (Fin 0))
  rw [Finset.univ_eq_empty, bigSep_empty]
  rfl

theorem obligation (c : Dev nD) : BodyObligation (dats (F := F) m 0 c) (defs₀ (F := F)) 𝒱₀ () Set.univ := fun t => by
  have ht : t = t0_0 := fin_N0 t
  subst ht
  rw [no_windows]
  simp only [no_windows]
  show iprop(before m c ∗ (dats m 0 c).owesAt () (t0_0 : Fin cfg0.N).castSucc ∗ emp) ⊢ run c (atBufs (cc0_body (F := F)))
    fun _ => iprop(after m c ∗ (dats m 0 c).owesAt () (t0_0 : Fin cfg0.N).succ ∗ emp)
  unfold Dat.owesAt Pipeline.owesWithin
  iintro ⟨Hb, ⟨%W, %hW, HO⟩, -⟩
  iapply (device m c _) $$ [Hb HO]
  · isplitl [Hb]; · iexact Hb
    iexists W
    iexact HO
  iintro ⟨Ha, ⟨%W', HO⟩⟩
  isplitl [Ha]; · iexact Ha
  isplitl [HO]
  · iexists W'
    isplitr; · ipureintro; exact fun _ _ => Or.inl trivial
    iexact HO
  iempintro

/-! ## The mesh -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ seated m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Harg]; · iexact Harg
    unfold anyBuf
    iexists _
    iexact Hout
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch anyBuf
  iintro ⟨Hs, -, Hr⟩
  isplitl [Hs]; · iexact Hs
  iexact Hr

/-- What is read at the end: the argument as it was, the result, the barrier semaphore at zero. -/
def outcome (c : Dev nD) : sProp 𝕄 :=
  iprop(((c : Thread nD τ).loc main_arg0 ↦{fullShare} m ((c : Thread nD τ).loc main_arg0)) ∗ ((c : Thread nD τ).loc main_v1 ↦{fullShare} val m c .ou)
    ∗ unscopedSems0 c)

theorem leave (c : Dev nD) :
    (dats m 0 c).Φ (Fin.last cfg0.N) ⊢ iprop(outcome m c ∗ own0 (F := F) c ∗ Pipeline.scopedRest cfg0.spec c) := by
  rw [show (dats m 0 c).Φ (Fin.last cfg0.N) = after m c from rfl, scopedRest0_eq]
  unfold after final outcome scratch anyBuf
  rw [others0_eq]
  iintro ⟨⟨Harg, Hout, Hscr⟩, Hown, Hbar⟩
  isplitl [Harg Hout Hbar]
  · isplitl [Harg]; · iexact Harg
    isplitl [Hout]; · iexact Hout
    iexact Hbar
  isplitl [Hown]; · iexact Hown
  iexact Hscr

theorem waits (c : Dev nD) : (levAts L lv : sProp 𝕄) ⊢ Pipeline.cellsWaits cfgs (dats m) () 0 c :=
  Pipeline.cellsWaits_intro cfgs (dats m) () 0 c fun w => w.elim0

/-- What the memory holds at the end. -/
def Ends (c : Dev nD) (s : MemSt nD τ sig (Elt F)) : Prop :=
  s.mem ((c : Thread nD τ).loc main_arg0) = m ((c : Thread nD τ).loc main_arg0) ∧ s.mem ((c : Thread nD τ).loc main_v1) = val m c .ou
    ∧ ∀ sm : SemLoc sig, sm.isScoped .tc = false → s.sem ((c.tc : Thread nD τ), sm) = 0

theorem read_end (c : Dev nD) (s' : Phys nD τ sig (Elt F)) :
    iprop(outcome m c ∗ emp ∗ SI s') ⊢ (|={Set.univ}=> iprop(⌜Ends m c s'.mem⌝ ∗ SI s') : sProp 𝕄) := by
  unfold outcome
  iintro ⟨⟨Harg, Hout, Hu⟩, -, HSI⟩
  icombine HSI Harg gives %h1
  icombine HSI Hout gives %h2
  imod (Pipeline.unscopedSems0_read (X := unscopedSems0 c) (c := c) fupd_intro s') $$ [Hu HSI] with ⟨%h3, HSI⟩
  · isplitl [Hu] <;> iassumption
  imodintro
  isplitr
  · ipureintro
    exact ⟨Buf.eq_of_forall_mem_univ h1, Buf.eq_of_forall_mem_univ h2, h3⟩
  iexact HSI

/-- From any memory with every counter at zero, every fair execution ends, every device's argument is as it was, its result
    holds what it is to hold, and every counter is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt m) (G' := seated m) (u₀ := u₀)
    (hu₀ := by
      iintro Hu
      ihave H := (u₀_split (F := F)) $$ Hu
      icases H with ⟨HP, HX⟩
      imod (deal m) $$ HX with HG
      imodintro
      isplitl [HP] <;> iassumption)
    (hglob := setup m)
    (hA := fun _ w => w.elim0) (hpf := fun _ k => k.elim0)
    (X := start m) (Y := outcome m) (Z := fun _ => iprop(emp))
    (hX := start_intro m ρ) (hin := enter m) (hout := leave m)
    (QY := Ends m) (hY := read_end m)
    (hQ := fun _ h hs => ⟨fun c => (h c).2.2, sem_eq_zero hs fun c => (h c).2.2.2.2⟩)

end Cert.Exchange

end
-- ==== Proof.Machine.lean ====
/-
# The kernel in machine numbers

The program over the reals has the operations of the program in machine numbers, and its run is proved for any numbers.
-/
module

public import proofs.«01_k».proof.Proof.Launch
public import proofs.«01_k».proof.Defs
public import proofs.«01_k».proof.Proof.Gen.Kernel

@[expose] public section

set_option maxRecDepth 16384

noncomputable section

namespace Cert.Exchange

open Idealize.ShloMosaic
open Idealize.ShloMosaic.TcCoe
open Idealize.SL.Sem

/-- In machine numbers too every device runs to the end with its argument as it was and every semaphore back at zero. -/
theorem frame_kernel : Cert.quiescent_Kernel := fun m ρ _ =>
  (θ_run Cert.KernelIdeal.defs _ _).mono (fun _ h => ⟨fun c => (h.1 c).1, h.2⟩) (run_main (F := Bits) m ρ)

end Cert.Exchange

end
-- ==== Proof.Whole.lean ====
/-
# The result, read off the whole array

When every device starts with its block of rows of one whole array, what a device's result is to hold is its block of columns
of that array. The reference does nothing: its result is its argument.
-/
module

public import proofs.«01_k».proof.Proof.Launch
public import proofs.«01_k».proof.Defs
public import proofs.«01_k».proof.Proof.Gen.ReferenceIdeal
public import Idealize.ShloMosaic.Lib.StableHlo.Run

@[expose] public section

set_option maxRecDepth 16384

noncomputable section

namespace Cert.Exchange

open Cert.KernelIdeal Cert.KernelIdeal.Gen
open Idealize.ShloMosaic
open Idealize.ShloMosaic.TcCoe
open Idealize.SL.Sem

/-! ## The kernel's result -/

section Value
variable {F : FTy → Type} [FloatOps F]
variable (m : (ℓ : Loc nD τ sig) → Buf (Elt F) ℓ) (w : ℕ → ℕ → Elt F .f32)
  (hw : ∀ (c : Dev nD) (r j : ℕ), r < 4096 → j < 2048 → gN m c r j = w (4096 * xc c + r) j)
include hw

/-- The staged rows are the device's own half's, at the columns of the device across `x`. -/
theorem sN_whole (c : Dev nD) (r j : ℕ) (hr : r < 1368) (hj : j < 1024) :
    sN m c r j = w (4096 * xc c + (if r < 1024 then 1024 * q c + r else 1024 * qd c + r - 344)) (1024 * (1 - xc c) + j) := by
  have := q_lt c
  have := qd_lt c
  unfold sN
  by_cases h : r < 1024
  · rw [if_pos h, if_pos h]; exact hw c _ _ (by omega) (by omega)
  · rw [if_neg h, if_neg h]; exact hw c _ _ (by omega) (by omega)

/-- The rows received across `x` are the other half's, at the device's own columns. -/
theorem xN_whole (c : Dev nD) (r j : ℕ) (hr : r < 1024) (hj : j < 1024) : xN m c r j = w (4096 * (1 - xc c) + 1024 * q c + r) (1024 * xc c + j) := by
  have := xc_lt c
  unfold xN
  rw [sN_whole m w hw _ r j (by omega) hj, if_pos hr, xc_xp, q_xp, show 1 - (1 - xc c) = xc c by omega, Nat.add_assoc]

/-- The rows received across `y`: another quarter of the other half. -/
theorem yN_whole (c : Dev nD) (r j : ℕ) (hr : r < 1024) (hj : j < 1024) : yN m c r j = w (4096 * (1 - xc c) + 1024 * q (yp c) + r) (1024 * xc c + j) := by
  unfold yN; rw [xN_whole m w hw _ r j hr hj, xc_yp]
/-- The rows received across `z`: a third quarter of it. -/
theorem zN_whole (c : Dev nD) (r j : ℕ) (hr : r < 1024) (hj : j < 1024) : zN m c r j = w (4096 * (1 - xc c) + 1024 * q (zp c) + r) (1024 * xc c + j) := by
  unfold zN; rw [xN_whole m w hw _ r j hr hj, xc_zp]

omit hw in
theorem opposite (c : Dev nD) : q (zp (yp c)) = qd c ∧ q (yp (zp c)) = qd c := by revert c; decide +kernel
omit hw in
theorem qd_xp (c : Dev nD) : qd (xp c) = qd c := by revert c; decide +kernel
omit hw in
/-- The four quarters are the device's own, its two neighbours' and the opposite one. -/
theorem quarter (c : Dev nD) (k : Fin 4) (h1 : k.val ≠ q c) (h2 : k.val ≠ q (yp c)) (h3 : k.val ≠ q (zp c)) : k.val = qd c := by
  revert c k; decide +kernel

/-- Every row of the other half, by quarter. -/
theorem fN_whole (c : Dev nD) (k s j : ℕ) (hk : k < 4) (hs : s < 1024) (hj : j < 1024) :
    fN m c k s j = w (4096 * (1 - xc c) + 1024 * k + s) (1024 * xc c + j) := by
  have hx := xc_lt c
  unfold fN
  by_cases h1 : k = q c
  · rw [if_pos h1, xN_whole m w hw c s j hs hj, h1]
  by_cases h2 : k = q (yp c)
  · rw [if_neg h1, if_pos h2, yN_whole m w hw c s j hs hj, h2]
  by_cases h3 : k = q (zp c)
  · rw [if_neg h1, if_neg h2, if_pos h3, zN_whole m w hw c s j hs hj, h3]
  have h4 : k = qd c := quarter c ⟨k, hk⟩ h1 h2 h3
  rw [if_neg h1, if_neg h2, if_neg h3]
  by_cases h5 : s < 344
  · rw [if_pos h5, zN_whole m w hw _ s j hs hj, xc_yp, (opposite c).1, h4]
  by_cases h6 : s < 680
  · rw [if_neg h5, if_pos h6, yN_whole m w hw _ s j hs hj, xc_zp, (opposite c).2, h4]
  rw [if_neg h5, if_neg h6, sN_whole m w hw _ _ j (by omega) hj, if_neg (by omega), xc_xp, qd_xp, h4,
    show 1 - (1 - xc c) = xc c by omega, show 1024 * qd c + (s + 344) - 344 = 1024 * qd c + s by omega, Nat.add_assoc]

/-- The result is the device's columns of the whole array. -/
theorem oN_whole (c : Dev nD) (r j : ℕ) (hr : r < 8192) (hj : j < 1024) : oN m c r j = w r (1024 * xc c + j) := by
  have hx := xc_lt c
  unfold oN
  by_cases h : r / 4096 = xc c
  · rw [if_pos h]
    unfold kN
    rw [hw c _ _ (Nat.mod_lt _ (by decide)) (by omega), show 4096 * xc c + r % 4096 = r by omega]
  · rw [if_neg h, fN_whole m w hw c _ _ j (by omega) (Nat.mod_lt _ (by decide)) hj,
      show 4096 * (1 - xc c) + 1024 * (r % 4096 / 1024) + r % 1024 = r by omega]

end Value

set_option backward.proofsInPublic true in
/-- The index of the whole array at a row and a column (taken modulo the extents). -/
def wholeIdx (r j : ℕ) : Shape.Idx ⟨2, ![8192, 2048]⟩ := fun a =>
  match a with
  | ⟨0, _⟩ => (⟨r % 8192, Nat.mod_lt _ (by decide)⟩ : Fin 8192)
  | ⟨1, _⟩ => (⟨j % 2048, Nat.mod_lt _ (by decide)⟩ : Fin 2048)

theorem lin_x (c : Dev nD) : Layout.meshLin [2, 2, 2] c.val [0] = xc c := by revert c; decide +kernel
theorem lin_none (c : Dev nD) : Layout.meshLin [2, 2, 2] c.val [] = 0 := rfl

/-- From blocks of rows, blocks of columns. -/
theorem val_block {F : FTy → Type} [FloatOps F] (m : (ℓ : Loc nD τ sig) → Buf (Elt F) ℓ) (W : Shape.Idx ⟨2, ![8192, 2048]⟩ → Elt F .f32)
    (hm : ∀ c : Dev nD, m ((c : Thread nD τ).loc main_arg0) = Layout.blockN ⟨2, ![4096, 2048]⟩ ⟨2, ![8192, 2048]⟩ (Layout.meshBlock [2, 2, 2] ![[0], []] c) W)
    (c : Dev nD) : val m c .ou = Layout.blockN ⟨2, ![8192, 1024]⟩ ⟨2, ![8192, 2048]⟩ (Layout.meshBlock [2, 2, 2] ![[], [0]] c) W := by
  have hw (c : Dev nD) (r j : ℕ) (hr : r < 4096) (hj : j < 2048) : gN m c r j = W (wholeIdx (4096 * xc c + r) j) := by
    have hx := xc_lt c
    unfold gN
    rw [hm c, Layout.blockN_apply]
    refine congrArg W (funext fun a => Fin.ext ?_)
    rw [Layout.TilesN.idx_val]
    match a with
    | ⟨0, _⟩ =>
      show Layout.meshLin [2, 2, 2] c.val [0] * 4096 + r % 4096 = (4096 * xc c + r) % 8192
      rw [lin_x]; omega
    | ⟨1, _⟩ =>
      show Layout.meshLin [2, 2, 2] c.val [] * 2048 + j % 2048 = j % 2048
      rw [lin_none]; omega
  funext i
  have h0 : (i 0).val < 8192 := (i 0).isLt
  have h1 : (i 1).val < 1024 := (i 1).isLt
  have hx := xc_lt c
  show oN m c (i 0).val (i 1).val = _
  rw [oN_whole m (fun r j => W (wholeIdx r j)) hw c _ _ h0 h1, Layout.blockN_apply]
  refine congrArg W (funext fun a => Fin.ext ?_)
  rw [Layout.TilesN.idx_val]
  match a with
  | ⟨0, _⟩ =>
    show (i 0).val % 8192 = Layout.meshLin [2, 2, 2] c.val [] * 8192 + (i 0).val
    rw [lin_none]; omega
  | ⟨1, _⟩ =>
    show (1024 * xc c + (i 1).val) % 2048 = Layout.meshLin [2, 2, 2] c.val [0] * 1024 + (i 1).val
    rw [lin_x]; omega

/-! ## The reference -/

theorem ref_main (c : Dev Cert.ReferenceIdeal.nD) :
    Cert.ReferenceIdeal.main (F := Ideal) c = StableHlo.seq ([] : List (HloOp Cert.ReferenceIdeal.τ Cert.ReferenceIdeal.sig (Elt Ideal))) := rfl

/-- The reference ends with its argument as it was. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) ref_main (fun _ => trivial) m ρ)

/-! ## The claims -/

/-- The kernel over the reals ends with its arguments as they were and every semaphore at zero. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So does the reference. -/
theorem frame_reference : Cert.quiescent_ReferenceIdeal := fun m ρ _ =>
  (θ_run Cert.ReferenceIdeal.defs _ _).mono (fun r h => ⟨h, sem_eq_zero_of_no_sems (by decide) r.2⟩) (ref_run m ρ)

/-- From row blocks of one array the kernel makes the column blocks of the same array, which is the reference's result. -/
theorem all_to_all : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.1.trans (val_block m _ hm c), (h.1 c).1⟩) (run_main (F := Ideal) m ρ),
    (θ_run Cert.ReferenceIdeal.defs _ _).mono (fun _ h => ⟨h 0, h 0⟩) (ref_run m' ρ')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Launch
public import proofs.«01_k».proof.Proof.Machine
public import proofs.«01_k».proof.Proof.Whole

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_kernelIdeal, Cert.Exchange.frame_reference, trivial, Cert.Exchange.all_to_all⟩

end Cert.Proof

end
